-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cube_faces [hPre_cube_faces : Cert.Pre_cube_faces.Facts] (m : (ℓ : Loc Cert.KernelIdeal.nD Cert.KernelIdeal.τ Cert.KernelIdeal.sig) → Buf (Elt Ideal) ℓ) : Prop :=
  ∀ c : Dev Cert.KernelIdeal.nD,
    (Cert.Pre_cube_faces.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cube_faces [hPre_cube_faces : Cert.Pre_cube_faces.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cube_faces.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_cube_faces [hKernelIdeal : Cert.KernelIdeal.Facts] [hPre_cube_faces : Cert.Pre_cube_faces.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cube_faces m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_cube_faces [hReferenceIdeal : Cert.ReferenceIdeal.Facts] [hPre_cube_faces : Cert.Pre_cube_faces.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cube_faces m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_cube_faces [hKernelIdeal : Cert.KernelIdeal.Facts] [hReferenceIdeal : Cert.ReferenceIdeal.Facts] [hPre_cube_faces : Cert.Pre_cube_faces.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cube_faces m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_cube_faces : Cert.Pre_cube_faces.Facts),
    quiescent_Kernel (hKernel := hKernel)
    ∧ quiescent_KernelIdeal (hKernelIdeal := hKernelIdeal)
    ∧ quiescent_KernelIdeal_pre_cube_faces (hKernelIdeal := hKernelIdeal) (hPre_cube_faces := hPre_cube_faces)
    ∧ quiescent_ReferenceIdeal (hReferenceIdeal := hReferenceIdeal)
    ∧ quiescent_ReferenceIdeal_pre_cube_faces (hReferenceIdeal := hReferenceIdeal) (hPre_cube_faces := hPre_cube_faces)
    ∧ preserves_Kernel_KernelIdeal
    ∧ algebraic_KernelIdeal_ReferenceIdeal_pre_cube_faces (hKernelIdeal := hKernelIdeal) (hReferenceIdeal := hReferenceIdeal) (hPre_cube_faces := hPre_cube_faces)
-- ==== Pre_cube_faces.lean ====
abbrev S6x3x256x256 : Shape := ⟨4, ![6, 3, 256, 256]⟩
abbrev S6x1x128x128 : Shape := ⟨4, ![6, 1, 128, 128]⟩
abbrev S193548x3 : Shape := ⟨2, ![193548, 3]⟩
abbrev S6x2x127x127x3 : Shape := ⟨5, ![6, 2, 127, 127, 3]⟩
abbrev S_ : Shape := ⟨0, ![]⟩

class Facts : Prop where
  shapeCasts_S193548x3_S6x2x127x127x3 : S193548x3.ShapeCasts S6x2x127x127x3
  bcast_S_S6x2x127x127x3 : S_.BroadcastsInDim S6x2x127x127x3 (![] : Fin 0 → Fin S6x2x127x127x3.rank)

variable [Facts]

def fn_where {F : FTy → Type} [FloatOps F] (arg0 : IVec S6x2x127x127x3 1) (arg1 : IVec S6x2x127x127x3 32) (arg2 : IVec S6x2x127x127x3 32) : IVec S6x2x127x127x3 32 :=
  let v0 : IVec S6x2x127x127x3 32 := select arg0 arg1 arg2
  v0

def fn_part1 {F : FTy → Type} [FloatOps F] (main_v0 : IVec S6x2x127x127x3 32) (main_v2 : IVec S6x2x127x127x3 32) (main_v5 : IVec S6x2x127x127x3 32) (main_v11 : IVec S6x2x127x127x3 32) (main_v13 : IVec S6x2x127x127x3 32) (main_v15 : IVec S6x2x127x127x3 32) (main_v17 : IVec S6x2x127x127x3 32) (main_c_4 : IVec S_ 32) : IVec S6x2x127x127x3 1 :=
  let main_v18 : IVec S6x2x127x127x3 32 := broadcastInDim S6x2x127x127x3 ![] bcast_S_S6x2x127x127x3 main_c_4
  let main_v19 : IVec S6x2x127x127x3 1 := cmpi .eq main_v5 main_v18
  let main_c_5 : IVec S_ 32 := constantI S_ 32 1#32
  let main_v20 : IVec S6x2x127x127x3 32 := broadcastInDim S6x2x127x127x3 ![] bcast_S_S6x2x127x127x3 main_c_5
  let main_v21 : IVec S6x2x127x127x3 1 := cmpi .eq main_v5 main_v20
  let main_v22 : IVec S6x2x127x127x3 32 := fn_where (F := F) main_v21 main_v15 main_v13
  let main_v23 : IVec S6x2x127x127x3 32 := fn_where (F := F) main_v19 main_v11 main_v22
  let main_c_6 : IVec S_ 32 := constantI S_ 32 0#32
  let main_v24 : IVec S6x2x127x127x3 32 := broadcastInDim S6x2x127x127x3 ![] bcast_S_S6x2x127x127x3 main_c_6
  let main_v25 : IVec S6x2x127x127x3 1 := cmpi .eq main_v5 main_v24
  let main_c_7 : IVec S_ 32 := constantI S_ 32 1#32
  let main_v26 : IVec S6x2x127x127x3 32 := broadcastInDim S6x2x127x127x3 ![] bcast_S_S6x2x127x127x3 main_c_7
  let main_v27 : IVec S6x2x127x127x3 1 := cmpi .eq main_v5 main_v26
  let main_v28 : IVec S6x2x127x127x3 32 := fn_where (F := F) main_v27 main_v15 main_v17
  let main_v29 : IVec S6x2x127x127x3 32 := fn_where (F := F) main_v25 main_v13 main_v28
  let main_c_8 : IVec S_ 32 := constantI S_ 32 0#32
  let main_v30 : IVec S6x2x127x127x3 32 := broadcastInDim S6x2x127x127x3 ![] bcast_S_S6x2x127x127x3 main_c_8
  let main_v31 : IVec S6x2x127x127x3 1 := cmpi .eq main_v2 main_v30
  let main_v32 : IVec S6x2x127x127x3 32 := fn_where (F := F) main_v31 main_v23 main_v29
  let main_v33 : IVec S6x2x127x127x3 1 := cmpi .eq main_v0 main_v32
  main_v33

def fn {F : FTy → Type} [FloatOps F] (main_arg0 : FVec F S6x3x256x256 .f32) (main_arg1 : FVec F S6x1x128x128 .f32) (main_arg2 : IVec S193548x3 32) : IVec S6x2x127x127x3 1 :=
  let main_v0 : IVec S6x2x127x127x3 32 := shapeCast S6x2x127x127x3 main_arg2 shapeCasts_S193548x3_S6x2x127x127x3
  let main_v1 : IVec S6x2x127x127x3 32 := iotaInDim S6x2x127x127x3 32 0
  let main_v2 : IVec S6x2x127x127x3 32 := iotaInDim S6x2x127x127x3 32 1
  let main_v3 : IVec S6x2x127x127x3 32 := iotaInDim S6x2x127x127x3 32 2
  let main_v4 : IVec S6x2x127x127x3 32 := iotaInDim S6x2x127x127x3 32 3
  let main_v5 : IVec S6x2x127x127x3 32 := iotaInDim S6x2x127x127x3 32 4
  let main_c : IVec S_ 32 := constantI S_ 32 16384#32
  let main_v6 : IVec S6x2x127x127x3 32 := broadcastInDim S6x2x127x127x3 ![] bcast_S_S6x2x127x127x3 main_c
  let main_v7 : IVec S6x2x127x127x3 32 := muli main_v1 main_v6
  let main_c_0 : IVec S_ 32 := constantI S_ 32 128#32
  let main_v8 : IVec S6x2x127x127x3 32 := broadcastInDim S6x2x127x127x3 ![] bcast_S_S6x2x127x127x3 main_c_0
  let main_v9 : IVec S6x2x127x127x3 32 := muli main_v3 main_v8
  let main_v10 : IVec S6x2x127x127x3 32 := addi main_v7 main_v9
  let main_v11 : IVec S6x2x127x127x3 32 := addi main_v10 main_v4
  let main_c_1 : IVec S_ 32 := constantI S_ 32 1#32
  let main_v12 : IVec S6x2x127x127x3 32 := broadcastInDim S6x2x127x127x3 ![] bcast_S_S6x2x127x127x3 main_c_1
  let main_v13 : IVec S6x2x127x127x3 32 := addi main_v11 main_v12
  let main_c_2 : IVec S_ 32 := constantI S_ 32 128#32
  let main_v14 : IVec S6x2x127x127x3 32 := broadcastInDim S6x2x127x127x3 ![] bcast_S_S6x2x127x127x3 main_c_2
  let main_v15 : IVec S6x2x127x127x3 32 := addi main_v11 main_v14
  let main_c_3 : IVec S_ 32 := constantI S_ 32 129#32
  let main_v16 : IVec S6x2x127x127x3 32 := broadcastInDim S6x2x127x127x3 ![] bcast_S_S6x2x127x127x3 main_c_3
  let main_v17 : IVec S6x2x127x127x3 32 := addi main_v11 main_v16
  let main_c_4 : IVec S_ 32 := constantI S_ 32 0#32
  fn_part1 (F := F) main_v0 main_v2 main_v5 main_v11 main_v13 main_v15 main_v17 main_c_4
-- ==== Kernel.lean ====
abbrev S6x3x256x256 : Shape := ⟨4, ![6, 3, 256, 256]⟩
abbrev S6x1x128x128 : Shape := ⟨4, ![6, 1, 128, 128]⟩
abbrev S193548x3 : Shape := ⟨2, ![193548, 3]⟩
abbrev S128x256 : Shape := ⟨2, ![128, 256]⟩
abbrev S_ : Shape := ⟨0, ![]⟩
abbrev S256x128 : Shape := ⟨2, ![256, 128]⟩
abbrev S6x3x128x128 : Shape := ⟨4, ![6, 3, 128, 128]⟩
abbrev S1x3x256x256 : Shape := ⟨4, ![1, 3, 256, 256]⟩
abbrev S1x1x128x128 : Shape := ⟨4, ![1, 1, 128, 128]⟩
abbrev S1x3x128x128 : Shape := ⟨4, ![1, 3, 128, 128]⟩
abbrev S128x128 : Shape := ⟨2, ![128, 128]⟩
abbrev S1x1x256x256 : Shape := ⟨4, ![1, 1, 256, 256]⟩
abbrev S256x256 : Shape := ⟨2, ![256, 256]⟩
abbrev S127x128 : Shape := ⟨2, ![127, 128]⟩
abbrev S1x128 : Shape := ⟨2, ![1, 128]⟩
abbrev S128x127 : Shape := ⟨2, ![128, 127]⟩
abbrev S128x1 : Shape := ⟨2, ![128, 1]⟩

abbrev nBuf : Space → Nat
  | .hbm => 109
  | .vmem => 8
  | .smem => 0
  | _ => 0

abbrev bufTy : (tb : Table) → Fin (tcTables nBuf tb) → BufTy
  | .hbm, ⟨0, _⟩ => ⟨S6x3x256x256, .f32⟩
  | .hbm, ⟨1, _⟩ => ⟨S6x1x128x128, .f32⟩
  | .hbm, ⟨2, _⟩ => ⟨S193548x3, .i32⟩
  | .hbm, ⟨3, _⟩ => ⟨S128x256, .i32⟩
  | .hbm, ⟨4, _⟩ => ⟨S128x256, .i32⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S_, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S128x256, .i32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S128x256, .i1⟩
  | .hbm, ⟨46, _⟩ => ⟨S_, .i32⟩
  | .hbm, ⟨47, _⟩ => ⟨S_, .i32⟩
  | .hbm, ⟨48, _⟩ => ⟨S128x256, .i32⟩
  | .hbm, ⟨49, _⟩ => ⟨S128x256, .i32⟩
  | .hbm, ⟨50, _⟩ => ⟨S128x256, .i32⟩
  | .hbm, ⟨51, _⟩ => ⟨S128x256, .f32⟩
  | .hbm, ⟨52, _⟩ => ⟨S_, .f32⟩
  | .hbm, ⟨53, _⟩ => ⟨S128x256, .f32⟩
  | .hbm, ⟨54, _⟩ => ⟨S128x256, .f32⟩
  | .hbm, ⟨55, _⟩ => ⟨S128x256, .i32⟩
  | .hbm, ⟨56, _⟩ => ⟨S128x256, .i32⟩
  | .hbm, ⟨57, _⟩ => ⟨S_, .i32⟩
  | .hbm, ⟨58, _⟩ => ⟨S128x256, .i32⟩
  | .hbm, ⟨59, _⟩ => ⟨S128x256, .i32⟩
  | .hbm, ⟨60, _⟩ => ⟨S_, .i32⟩
  | .hbm, ⟨61, _⟩ => ⟨S128x256, .i32⟩
  | .hbm, ⟨62, _⟩ => ⟨S128x256, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S128x256, .i32⟩
  | .hbm, ⟨67, _⟩ => ⟨S128x256, .i32⟩
  | .hbm, ⟨68, _⟩ => ⟨S_, .i32⟩
  | .hbm, ⟨69, _⟩ => ⟨S128x256, .i32⟩
  | .hbm, ⟨70, _⟩ => ⟨S128x256, .i32⟩
  | .hbm, ⟨71, _⟩ => ⟨S_, .i32⟩
  | .hbm, ⟨72, _⟩ => ⟨S128x256, .i32⟩
  | .hbm, ⟨73, _⟩ => ⟨S128x256, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S128x256, .i32⟩
  | .hbm, ⟨78, _⟩ => ⟨S128x256, .i32⟩
  | .hbm, ⟨79, _⟩ => ⟨S_, .i32⟩
  | .hbm, ⟨80, _⟩ => ⟨S128x256, .i32⟩
  | .hbm, ⟨81, _⟩ => ⟨S128x256, .i32⟩
  | .hbm, ⟨82, _⟩ => ⟨S_, .i32⟩
  | .hbm, ⟨83, _⟩ => ⟨S128x256, .i32⟩
  | .hbm, ⟨84, _⟩ => ⟨S128x256, .i32⟩
  | .hbm, ⟨85, _⟩ => ⟨S_, .i32⟩
  | .hbm, ⟨86, _⟩ => ⟨S128x256, .i32⟩
  | .hbm, ⟨87, _⟩ => ⟨S128x256, .i32⟩
  | .hbm, ⟨88, _⟩ => ⟨S128x256, .i32⟩
  | .hbm, ⟨89, _⟩ => ⟨S128x256, .i1⟩
  | .hbm, ⟨90, _⟩ => ⟨S_, .i32⟩
  | .hbm, ⟨91, _⟩ => ⟨S128x256, .i32⟩
  | .hbm, ⟨92, _⟩ => ⟨S128x256, .i32⟩
  | .hbm, ⟨93, _⟩ => ⟨S_, .i32⟩
  | .hbm, ⟨94, _⟩ => ⟨S_, .i32⟩
  | .hbm, ⟨95, _⟩ => ⟨S128x256, .i32⟩
  | .hbm, ⟨96, _⟩ => ⟨S128x256, .i32⟩
  | .hbm, ⟨97, _⟩ => ⟨S128x256, .i1⟩
  | .hbm, ⟨98, _⟩ => ⟨S_, .i32⟩
  | .hbm, ⟨99, _⟩ => ⟨S_, .i32⟩
  | .hbm, ⟨100, _⟩ => ⟨S128x256, .i32⟩
  | .hbm, ⟨101, _⟩ => ⟨S128x256, .i32⟩
  | .hbm, ⟨102, _⟩ => ⟨S128x256, .i32⟩
  | .hbm, ⟨103, _⟩ => ⟨S128x256, .f32⟩
  | .hbm, ⟨104, _⟩ => ⟨S_, .f32⟩
  | .hbm, ⟨105, _⟩ => ⟨S128x256, .f32⟩
  | .hbm, ⟨106, _⟩ => ⟨S128x256, .f32⟩
  | .hbm, ⟨107, _⟩ => ⟨S256x128, .f32⟩
  | .hbm, ⟨108, _⟩ => ⟨S6x3x128x128, .f32⟩
  | .local _ .vmem, ⟨0, _⟩ => ⟨S1x3x256x256, .f32⟩
  | .local _ .vmem, ⟨1, _⟩ => ⟨S1x3x256x256, .f32⟩
  | .local _ .vmem, ⟨2, _⟩ => ⟨S1x1x128x128, .f32⟩
  | .local _ .vmem, ⟨3, _⟩ => ⟨S1x1x128x128, .f32⟩
  | .local _ .vmem, ⟨4, _⟩ => ⟨S128x256, .f32⟩
  | .local _ .vmem, ⟨5, _⟩ => ⟨S256x128, .f32⟩
  | .local _ .vmem, ⟨6, _⟩ => ⟨S1x3x128x128, .f32⟩
  | .local _ .vmem, ⟨7, _⟩ => ⟨S1x3x128x128, .f32⟩
  | _, _ => ⟨S6x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_c_4 : Ref sig .tc := ⟨.hbm, 22, rfl⟩
abbrev main_c_5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v9 : Ref sig .tc := ⟨.hbm, 29, rfl⟩
abbrev main_c_6 : Ref sig .tc := ⟨.hbm, 30, rfl⟩
abbrev main_v10 : Ref sig .tc := ⟨.hbm, 31, rfl⟩
abbrev main_v11 : Ref sig .tc := ⟨.hbm, 32, rfl⟩
abbrev main_c_7 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_8 : Ref sig .tc := ⟨.hbm, 38, rfl⟩
abbrev main_v16 : Ref sig .tc := ⟨.hbm, 39, rfl⟩
abbrev main_v17 : Ref sig .tc := ⟨.hbm, 40, rfl⟩
abbrev main_c_9 : Ref sig .tc := ⟨.hbm, 41, rfl⟩
abbrev main_call2_v0 : Ref sig .tc := ⟨.hbm, 42, rfl⟩
abbrev main_call2_v1 : Ref sig .tc := ⟨.hbm, 43, rfl⟩
abbrev main_v18 : Ref sig .tc := ⟨.hbm, 44, rfl⟩
abbrev main_v19 : Ref sig .tc := ⟨.hbm, 45, rfl⟩
abbrev main_c_10 : Ref sig .tc := ⟨.hbm, 46, rfl⟩
abbrev main_call3_v0 : Ref sig .tc := ⟨.hbm, 47, rfl⟩
abbrev main_call3_v1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_11 : Ref sig .tc := ⟨.hbm, 57, rfl⟩
abbrev main_v27 : Ref sig .tc := ⟨.hbm, 58, rfl⟩
abbrev main_v28 : Ref sig .tc := ⟨.hbm, 59, rfl⟩
abbrev main_c_12 : Ref sig .tc := ⟨.hbm, 60, rfl⟩
abbrev main_v29 : Ref sig .tc := ⟨.hbm, 61, rfl⟩
abbrev main_v30 : Ref sig .tc := ⟨.hbm, 62, rfl⟩
abbrev main_c_13 : Ref sig .tc := ⟨.hbm, 63, rfl⟩
abbrev main_c_14 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_v31 : Ref sig .tc := ⟨.hbm, 70, rfl⟩
abbrev main_c_15 : Ref sig .tc := ⟨.hbm, 71, rfl⟩
abbrev main_v32 : Ref sig .tc := ⟨.hbm, 72, rfl⟩
abbrev main_v33 : Ref sig .tc := ⟨.hbm, 73, rfl⟩
abbrev main_c_16 : Ref sig .tc := ⟨.hbm, 74, rfl⟩
abbrev main_c_17 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_v34 : Ref sig .tc := ⟨.hbm, 81, rfl⟩
abbrev main_c_18 : Ref sig .tc := ⟨.hbm, 82, rfl⟩
abbrev main_v35 : Ref sig .tc := ⟨.hbm, 83, rfl⟩
abbrev main_v36 : Ref sig .tc := ⟨.hbm, 84, rfl⟩
abbrev main_c_19 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_c_20 : Ref sig .tc := ⟨.hbm, 90, rfl⟩
abbrev main_v41 : Ref sig .tc := ⟨.hbm, 91, rfl⟩
abbrev main_v42 : Ref sig .tc := ⟨.hbm, 92, rfl⟩
abbrev main_c_21 : Ref sig .tc := ⟨.hbm, 93, rfl⟩
abbrev main_call6_v0 : Ref sig .tc := ⟨.hbm, 94, rfl⟩
abbrev main_call6_v1 : Ref sig .tc := ⟨.hbm, 95, rfl⟩
abbrev main_v43 : Ref sig .tc := ⟨.hbm, 96, rfl⟩
abbrev main_v44 : Ref sig .tc := ⟨.hbm, 97, rfl⟩
abbrev main_c_22 : Ref sig .tc := ⟨.hbm, 98, rfl⟩
abbrev main_call7_v0 : Ref sig .tc := ⟨.hbm, 99, rfl⟩
abbrev main_call7_v1 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_cst_23 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S6x3x256x256 : Shape := ⟨4, ![6, 3, 256, 256]⟩
abbrev S6x1x128x128 : Shape := ⟨4, ![6, 1, 128, 128]⟩
abbrev S193548x3 : Shape := ⟨2, ![193548, 3]⟩
abbrev S_ : Shape := ⟨0, ![]⟩
abbrev S127 : Shape := ⟨1, ![127]⟩
abbrev S1 : Shape := ⟨1, ![1]⟩
abbrev S128 : Shape := ⟨1, ![128]⟩
abbrev S128x1 : Shape := ⟨2, ![128, 1]⟩
abbrev S1x128 : Shape := ⟨2, ![1, 128]⟩
abbrev S6x3x128x256 : Shape := ⟨4, ![6, 3, 128, 256]⟩
abbrev S6x3x128x128 : Shape := ⟨4, ![6, 3, 128, 128]⟩
abbrev S1x1x1x128 : Shape := ⟨4, ![1, 1, 1, 128]⟩
abbrev S1x1x128x1 : Shape := ⟨4, ![1, 1, 128, 1]⟩
abbrev S6x128x128x3 : Shape := ⟨4, ![6, 128, 128, 3]⟩
abbrev S98304x3 : Shape := ⟨2, ![98304, 3]⟩
abbrev S193548x1 : Shape := ⟨2, ![193548, 1]⟩
abbrev S193548 : Shape := ⟨1, ![193548]⟩
abbrev S580644 : Shape := ⟨1, ![580644]⟩
abbrev S193548x3x3 : Shape := ⟨3, ![193548, 3, 3]⟩
abbrev S580644x3 : Shape := ⟨2, ![580644, 3]⟩
abbrev S580644x1 : Shape := ⟨2, ![580644, 1]⟩
abbrev S98304 : Shape := ⟨1, ![98304]⟩
abbrev S98304x1 : Shape := ⟨2, ![98304, 1]⟩

abbrev nBuf : Space → Nat
  | .hbm => 313
  | .vmem => 0
  | .smem => 0
  | _ => 0

abbrev hbmTy0_0 (i : Nat) : BufTy := match i % 128 with
  | 0 => ⟨S6x3x256x256, .f32⟩
  | 1 => ⟨S6x1x128x128, .f32⟩
  | 2 => ⟨S193548x3, .i32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S127, .f32⟩
  | 11 => ⟨S_, .f32⟩
  | 12 => ⟨S127, .f32⟩
  | 13 => ⟨S127, .f32⟩
  | 14 => ⟨S1, .f32⟩
  | 15 => ⟨S_, .f32⟩
  | 16 => ⟨S127, .f32⟩
  | 17 => ⟨S127, .f32⟩
  | 18 => ⟨S127, .f32⟩
  | 19 => ⟨S127, .f32⟩
  | 20 => ⟨S1, .f32⟩
  | 21 => ⟨S127, .f32⟩
  | 22 => ⟨S127, .f32⟩
  | 23 => ⟨S127, .f32⟩
  | 24 => ⟨S1, .f32⟩
  | 25 => ⟨S128, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S127, .f32⟩
  | 34 => ⟨S_, .f32⟩
  | 35 => ⟨S127, .f32⟩
  | 36 => ⟨S127, .f32⟩
  | 37 => ⟨S1, .f32⟩
  | 38 => ⟨S_, .f32⟩
  | 39 => ⟨S127, .f32⟩
  | 40 => ⟨S127, .f32⟩
  | 41 => ⟨S127, .f32⟩
  | 42 => ⟨S127, .f32⟩
  | 43 => ⟨S1, .f32⟩
  | 44 => ⟨S127, .f32⟩
  | 45 => ⟨S127, .f32⟩
  | 46 => ⟨S127, .f32⟩
  | 47 => ⟨S1, .f32⟩
  | 48 => ⟨S128, .f32⟩
  | 49 => ⟨S128, .f32⟩
  | 50 => ⟨S128, .i32⟩
  | 51 => ⟨S_, .i32⟩
  | 52 => ⟨S_, .i32⟩
  | 53 => ⟨S_, .i32⟩
  | 54 => ⟨S128, .i32⟩
  | 55 => ⟨S128, .i32⟩
  | 56 => ⟨S_, .i32⟩
  | 57 => ⟨S128, .i32⟩
  | 58 => ⟨S128, .i32⟩
  | 59 => ⟨S_, .i32⟩
  | 60 => ⟨S128, .i32⟩
  | 61 => ⟨S128, .i32⟩
  | 62 => ⟨S_, .i32⟩
  | 63 => ⟨S_, .i32⟩
  | 64 => ⟨S_, .i32⟩
  | 65 => ⟨S128, .i32⟩
  | 66 => ⟨S128, .i32⟩
  | 67 => ⟨S_, .i32⟩
  | 68 => ⟨S128, .i32⟩
  | 69 => ⟨S128, .i32⟩
  | 70 => ⟨S128, .f32⟩
  | 71 => ⟨S128, .i32⟩
  | 72 => ⟨S_, .i32⟩
  | 73 => ⟨S_, .i32⟩
  | 74 => ⟨S_, .i32⟩
  | 75 => ⟨S128, .i32⟩
  | 76 => ⟨S128, .i32⟩
  | 77 => ⟨S_, .i32⟩
  | 78 => ⟨S128, .i32⟩
  | 79 => ⟨S128, .i32⟩
  | 80 => ⟨S_, .i32⟩
  | 81 => ⟨S128, .i32⟩
  | 82 => ⟨S128, .i32⟩
  | 83 => ⟨S_, .i32⟩
  | 84 => ⟨S_, .i32⟩
  | 85 => ⟨S_, .i32⟩
  | 86 => ⟨S128, .i32⟩
  | 87 => ⟨S128, .i32⟩
  | 88 => ⟨S_, .i32⟩
  | 89 => ⟨S128, .i32⟩
  | 90 => ⟨S128, .i32⟩
  | 91 => ⟨S128, .f32⟩
  | 92 => ⟨S128, .f32⟩
  | 93 => ⟨S128x1, .f32⟩
  | 94 => ⟨S128, .f32⟩
  | 95 => ⟨S128, .f32⟩
  | 96 => ⟨S1x128, .f32⟩
  | 97 => ⟨S_, .i32⟩
  | 98 => ⟨S128, .i32⟩
  | 99 => ⟨S128, .i1⟩
  | 100 => ⟨S_, .i32⟩
  | 101 => ⟨S128, .i32⟩
  | 102 => ⟨S128, .i32⟩
  | 103 => ⟨S128, .i32⟩
  | 104 => ⟨S128x1, .i32⟩
  | 105 => ⟨S6x3x128x256, .f32⟩
  | 106 => ⟨S_, .i32⟩
  | 107 => ⟨S128, .i32⟩
  | 108 => ⟨S128, .i1⟩
  | 109 => ⟨S_, .i32⟩
  | 110 => ⟨S128, .i32⟩
  | 111 => ⟨S128, .i32⟩
  | 112 => ⟨S128, .i32⟩
  | 113 => ⟨S128x1, .i32⟩
  | 114 => ⟨S6x3x128x128, .f32⟩
  | 115 => ⟨S_, .i32⟩
  | 116 => ⟨S128, .i32⟩
  | 117 => ⟨S128, .i1⟩
  | 118 => ⟨S_, .i32⟩
  | 119 => ⟨S128, .i32⟩
  | 120 => ⟨S128, .i32⟩
  | 121 => ⟨S128, .i32⟩
  | 122 => ⟨S128x1, .i32⟩
  | 123 => ⟨S6x3x128x256, .f32⟩
  | 124 => ⟨S_, .i32⟩
  | 125 => ⟨S128, .i32⟩
  | 126 => ⟨S128, .i1⟩
  | 127 => ⟨S_, .i32⟩
  | _ => ⟨S6x3x256x256, .f32⟩

abbrev hbmTy0_1 (i : Nat) : BufTy := match i % 128 with
  | 0 => ⟨S128, .i32⟩
  | 1 => ⟨S128, .i32⟩
  | 2 => ⟨S128, .i32⟩
  | 3 => ⟨S128x1, .i32⟩
  | 4 => ⟨S6x3x128x128, .f32⟩
  | 5 => ⟨S_, .i32⟩
  | 6 => ⟨S128, .i32⟩
  | 7 => ⟨S128, .i1⟩
  | 8 => ⟨S_, .i32⟩
  | 9 => ⟨S128, .i32⟩
  | 10 => ⟨S128, .i32⟩
  | 11 => ⟨S128, .i32⟩
  | 12 => ⟨S128x1, .i32⟩
  | 13 => ⟨S6x3x128x256, .f32⟩
  | 14 => ⟨S_, .i32⟩
  | 15 => ⟨S128, .i32⟩
  | 16 => ⟨S128, .i1⟩
  | 17 => ⟨S_, .i32⟩
  | 18 => ⟨S128, .i32⟩
  | 19 => ⟨S128, .i32⟩
  | 20 => ⟨S128, .i32⟩
  | 21 => ⟨S128x1, .i32⟩
  | 22 => ⟨S6x3x128x128, .f32⟩
  | 23 => ⟨S_, .i32⟩
  | 24 => ⟨S128, .i32⟩
  | 25 => ⟨S128, .i1⟩
  | 26 => ⟨S_, .i32⟩
  | 27 => ⟨S128, .i32⟩
  | 28 => ⟨S128, .i32⟩
  | 29 => ⟨S128, .i32⟩
  | 30 => ⟨S128x1, .i32⟩
  | 31 => ⟨S6x3x128x256, .f32⟩
  | 32 => ⟨S_, .i32⟩
  | 33 => ⟨S128, .i32⟩
  | 34 => ⟨S128, .i1⟩
  | 35 => ⟨S_, .i32⟩
  | 36 => ⟨S128, .i32⟩
  | 37 => ⟨S128, .i32⟩
  | 38 => ⟨S128, .i32⟩
  | 39 => ⟨S128x1, .i32⟩
  | 40 => ⟨S6x3x128x128, .f32⟩
  | 41 => ⟨S_, .f32⟩
  | 42 => ⟨S1x128, .f32⟩
  | 43 => ⟨S1x128, .f32⟩
  | 44 => ⟨S1x1x1x128, .f32⟩
  | 45 => ⟨S6x3x128x128, .f32⟩
  | 46 => ⟨S6x3x128x128, .f32⟩
  | 47 => ⟨S1x1x1x128, .f32⟩
  | 48 => ⟨S6x3x128x128, .f32⟩
  | 49 => ⟨S6x3x128x128, .f32⟩
  | 50 => ⟨S6x3x128x128, .f32⟩
  | 51 => ⟨S_, .f32⟩
  | 52 => ⟨S1x128, .f32⟩
  | 53 => ⟨S1x128, .f32⟩
  | 54 => ⟨S1x1x1x128, .f32⟩
  | 55 => ⟨S6x3x128x128, .f32⟩
  | 56 => ⟨S6x3x128x128, .f32⟩
  | 57 => ⟨S1x1x1x128, .f32⟩
  | 58 => ⟨S6x3x128x128, .f32⟩
  | 59 => ⟨S6x3x128x128, .f32⟩
  | 60 => ⟨S6x3x128x128, .f32⟩
  | 61 => ⟨S_, .f32⟩
  | 62 => ⟨S128x1, .f32⟩
  | 63 => ⟨S128x1, .f32⟩
  | 64 => ⟨S1x1x128x1, .f32⟩
  | 65 => ⟨S6x3x128x128, .f32⟩
  | 66 => ⟨S6x3x128x128, .f32⟩
  | 67 => ⟨S1x1x128x1, .f32⟩
  | 68 => ⟨S6x3x128x128, .f32⟩
  | 69 => ⟨S6x3x128x128, .f32⟩
  | 70 => ⟨S6x3x128x128, .f32⟩
  | 71 => ⟨S6x128x128x3, .f32⟩
  | 72 => ⟨S98304x3, .f32⟩
  | 73 => ⟨S6x1x128x128, .f32⟩
  | 74 => ⟨S6x1x128x128, .f32⟩
  | 75 => ⟨S_, .f32⟩
  | 76 => ⟨S6x1x128x128, .f32⟩
  | 77 => ⟨S6x1x128x128, .f32⟩
  | 78 => ⟨S_, .f32⟩
  | 79 => ⟨S6x1x128x128, .f32⟩
  | 80 => ⟨S6x1x128x128, .f32⟩
  | 81 => ⟨S193548x1, .i32⟩
  | 82 => ⟨S193548, .i32⟩
  | 83 => ⟨S_, .i32⟩
  | 84 => ⟨S193548, .i32⟩
  | 85 => ⟨S193548, .i1⟩
  | 86 => ⟨S_, .i32⟩
  | 87 => ⟨S193548, .i32⟩
  | 88 => ⟨S193548, .i32⟩
  | 89 => ⟨S193548, .i32⟩
  | 90 => ⟨S193548x1, .i32⟩
  | 91 => ⟨S193548x3, .f32⟩
  | 92 => ⟨S193548x1, .i32⟩
  | 93 => ⟨S193548, .i32⟩
  | 94 => ⟨S_, .i32⟩
  | 95 => ⟨S193548, .i32⟩
  | 96 => ⟨S193548, .i1⟩
  | 97 => ⟨S_, .i32⟩
  | 98 => ⟨S193548, .i32⟩
  | 99 => ⟨S193548, .i32⟩
  | 100 => ⟨S193548, .i32⟩
  | 101 => ⟨S193548x1, .i32⟩
  | 102 => ⟨S193548x3, .f32⟩
  | 103 => ⟨S193548x1, .i32⟩
  | 104 => ⟨S193548, .i32⟩
  | 105 => ⟨S_, .i32⟩
  | 106 => ⟨S193548, .i32⟩
  | 107 => ⟨S193548, .i1⟩
  | 108 => ⟨S_, .i32⟩
  | 109 => ⟨S193548, .i32⟩
  | 110 => ⟨S193548, .i32⟩
  | 111 => ⟨S193548, .i32⟩
  | 112 => ⟨S193548x1, .i32⟩
  | 113 => ⟨S193548x3, .f32⟩
  | 114 => ⟨S193548x3, .f32⟩
  | 115 => ⟨S193548x3, .f32⟩
  | 116 => ⟨S193548x1, .f32⟩
  | 117 => ⟨S193548, .f32⟩
  | 118 => ⟨S193548x1, .f32⟩
  | 119 => ⟨S193548, .f32⟩
  | 120 => ⟨S193548x1, .f32⟩
  | 121 => ⟨S193548, .f32⟩
  | 122 => ⟨S193548x1, .f32⟩
  | 123 => ⟨S193548, .f32⟩
  | 124 => ⟨S193548x1, .f32⟩
  | 125 => ⟨S193548, .f32⟩
  | 126 => ⟨S193548x1, .f32⟩
  | 127 => ⟨S193548, .f32⟩
  | _ => ⟨S6x3x256x256, .f32⟩

abbrev hbmTy0_2 (i : Nat) : BufTy := match i % 128 with
  | 0 => ⟨S193548, .f32⟩
  | 1 => ⟨S193548, .f32⟩
  | 2 => ⟨S193548, .f32⟩
  | 3 => ⟨S193548, .f32⟩
  | 4 => ⟨S193548, .f32⟩
  | 5 => ⟨S193548, .f32⟩
  | 6 => ⟨S193548, .f32⟩
  | 7 => ⟨S193548, .f32⟩
  | 8 => ⟨S193548, .f32⟩
  | 9 => ⟨S193548x1, .f32⟩
  | 10 => ⟨S193548x1, .f32⟩
  | 11 => ⟨S193548x1, .f32⟩
  | 12 => ⟨S193548x3, .f32⟩
  | 13 => ⟨S193548x3, .f32⟩
  | 14 => ⟨S_, .f32⟩
  | 15 => ⟨S193548, .f32⟩
  | 16 => ⟨S193548x1, .f32⟩
  | 17 => ⟨S193548x1, .f32⟩
  | 18 => ⟨S_, .f32⟩
  | 19 => ⟨S193548x1, .f32⟩
  | 20 => ⟨S193548x1, .f32⟩
  | 21 => ⟨S193548x3, .f32⟩
  | 22 => ⟨S193548x3, .f32⟩
  | 23 => ⟨S_, .f32⟩
  | 24 => ⟨S98304x3, .f32⟩
  | 25 => ⟨S580644, .i32⟩
  | 26 => ⟨S193548x3x3, .f32⟩
  | 27 => ⟨S580644x3, .f32⟩
  | 28 => ⟨S_, .i32⟩
  | 29 => ⟨S580644, .i32⟩
  | 30 => ⟨S580644, .i1⟩
  | 31 => ⟨S_, .i32⟩
  | 32 => ⟨S580644, .i32⟩
  | 33 => ⟨S580644, .i32⟩
  | 34 => ⟨S580644, .i32⟩
  | 35 => ⟨S580644x1, .i32⟩
  | 36 => ⟨S98304x3, .f32⟩
  | 37 => ⟨S98304x3, .f32⟩
  | 38 => ⟨S_, .f32⟩
  | 39 => ⟨S98304, .f32⟩
  | 40 => ⟨S98304x1, .f32⟩
  | 41 => ⟨S98304x1, .f32⟩
  | 42 => ⟨S_, .f32⟩
  | 43 => ⟨S98304x1, .f32⟩
  | 44 => ⟨S98304x1, .f32⟩
  | 45 => ⟨S98304x3, .f32⟩
  | 46 => ⟨S98304x3, .f32⟩
  | 47 => ⟨S6x128x128x3, .f32⟩
  | 48 => ⟨S6x3x128x128, .f32⟩
  | 49 => ⟨S6x3x128x128, .f32⟩
  | 50 => ⟨S6x3x128x128, .f32⟩
  | 51 => ⟨S_, .f32⟩
  | 52 => ⟨S6x3x128x128, .f32⟩
  | 53 => ⟨S6x3x128x128, .f32⟩
  | 54 => ⟨S6x128x128x3, .f32⟩
  | 55 => ⟨S6x3x128x128, .f32⟩
  | 56 => ⟨S6x3x128x128, .f32⟩
  | _ => ⟨S6x3x256x256, .f32⟩

abbrev hbmTy (i : Nat) : BufTy := match i / 128 with
  | 0 => hbmTy0_0 i
  | 1 => hbmTy0_1 i
  | 2 => hbmTy0_2 i
  | _ => ⟨S6x3x256x256, .f32⟩

abbrev bufTy : (tb : Table) → Fin (tcTables nBuf tb) → BufTy
  | .hbm, ⟨i, _⟩ => hbmTy i
  | _, _ => ⟨S6x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_cst_1 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_cst : Ref sig .tc := ⟨.hbm, 31, rfl⟩
abbrev main_call1_v3 : Ref sig .tc := ⟨.hbm, 32, rfl⟩
abbrev main_call1_v4 : Ref sig .tc := ⟨.hbm, 33, rfl⟩
abbrev main_call1_cst_0 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_v15 : Ref sig .tc := ⟨.hbm, 46, rfl⟩
abbrev main_call1_v16 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩
abbrev main_c : Ref sig .tc := ⟨.hbm, 51, rfl⟩
abbrev main_c_3 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v4 : Ref sig .tc := ⟨.hbm, 58, rfl⟩
abbrev main_c_4 : Ref sig .tc := ⟨.hbm, 59, rfl⟩
abbrev main_v5 : Ref sig .tc := ⟨.hbm, 60, rfl⟩
abbrev main_v6 : Ref sig .tc := ⟨.hbm, 61, rfl⟩
abbrev main_c_5 : Ref sig .tc := ⟨.hbm, 62, rfl⟩
abbrev main_c_6 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_c_7 : Ref sig .tc := ⟨.hbm, 72, rfl⟩
abbrev main_c_8 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v10 : Ref sig .tc := ⟨.hbm, 79, rfl⟩
abbrev main_c_9 : Ref sig .tc := ⟨.hbm, 80, rfl⟩
abbrev main_v11 : Ref sig .tc := ⟨.hbm, 81, rfl⟩
abbrev main_v12 : Ref sig .tc := ⟨.hbm, 82, rfl⟩
abbrev main_c_10 : Ref sig .tc := ⟨.hbm, 83, rfl⟩
abbrev main_c_11 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_c_12 : Ref sig .tc := ⟨.hbm, 97, rfl⟩
abbrev main_v20 : Ref sig .tc := ⟨.hbm, 98, rfl⟩
abbrev main_v21 : Ref sig .tc := ⟨.hbm, 99, rfl⟩
abbrev main_c_13 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_c_14 : Ref sig .tc := ⟨.hbm, 106, rfl⟩
abbrev main_v27 : Ref sig .tc := ⟨.hbm, 107, rfl⟩
abbrev main_v28 : Ref sig .tc := ⟨.hbm, 108, rfl⟩
abbrev main_c_15 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_c_16 : Ref sig .tc := ⟨.hbm, 115, rfl⟩
abbrev main_v34 : Ref sig .tc := ⟨.hbm, 116, rfl⟩
abbrev main_v35 : Ref sig .tc := ⟨.hbm, 117, rfl⟩
abbrev main_c_17 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_c_18 : Ref sig .tc := ⟨.hbm, 124, rfl⟩
abbrev main_v41 : Ref sig .tc := ⟨.hbm, 125, rfl⟩
abbrev main_v42 : Ref sig .tc := ⟨.hbm, 126, rfl⟩
abbrev main_c_19 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_c_20 : Ref sig .tc := ⟨.hbm, 133, rfl⟩
abbrev main_v48 : Ref sig .tc := ⟨.hbm, 134, rfl⟩
abbrev main_v49 : Ref sig .tc := ⟨.hbm, 135, rfl⟩
abbrev main_c_21 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_c_22 : Ref sig .tc := ⟨.hbm, 142, rfl⟩
abbrev main_v55 : Ref sig .tc := ⟨.hbm, 143, rfl⟩
abbrev main_v56 : Ref sig .tc := ⟨.hbm, 144, rfl⟩
abbrev main_c_23 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_c_24 : Ref sig .tc := ⟨.hbm, 151, rfl⟩
abbrev main_v62 : Ref sig .tc := ⟨.hbm, 152, rfl⟩
abbrev main_v63 : Ref sig .tc := ⟨.hbm, 153, rfl⟩
abbrev main_c_25 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_c_26 : Ref sig .tc := ⟨.hbm, 160, rfl⟩
abbrev main_v69 : Ref sig .tc := ⟨.hbm, 161, rfl⟩
abbrev main_v70 : Ref sig .tc := ⟨.hbm, 162, rfl⟩
abbrev main_c_27 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_cst_28 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_cst_29 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_cst_30 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_cst_31 : Ref sig .tc := ⟨.hbm, 203, rfl⟩
abbrev main_v107 : Ref sig .tc := ⟨.hbm, 204, rfl⟩
abbrev main_v108 : Ref sig .tc := ⟨.hbm, 205, rfl⟩
abbrev main_cst_32 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_c_33 : Ref sig .tc := ⟨.hbm, 211, rfl⟩
abbrev main_v113 : Ref sig .tc := ⟨.hbm, 212, rfl⟩
abbrev main_v114 : Ref sig .tc := ⟨.hbm, 213, rfl⟩
abbrev main_c_34 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_c_35 : Ref sig .tc := ⟨.hbm, 222, rfl⟩
abbrev main_v122 : Ref sig .tc := ⟨.hbm, 223, rfl⟩
abbrev main_v123 : Ref sig .tc := ⟨.hbm, 224, rfl⟩
abbrev main_c_36 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_c_37 : Ref sig .tc := ⟨.hbm, 233, rfl⟩
abbrev main_v131 : Ref sig .tc := ⟨.hbm, 234, rfl⟩
abbrev main_v132 : Ref sig .tc := ⟨.hbm, 235, rfl⟩
abbrev main_c_38 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_call6_v0 : Ref sig .tc := ⟨.hbm, 269, rfl⟩
abbrev main_call6_cst : Ref sig .tc := ⟨.hbm, 270, rfl⟩
abbrev main_call6_v1 : Ref sig .tc := ⟨.hbm, 271, rfl⟩
abbrev main_call6_v2 : Ref sig .tc := ⟨.hbm, 272, rfl⟩
abbrev main_v165 : Ref sig .tc := ⟨.hbm, 273, rfl⟩
abbrev main_cst_39 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_cst_40 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_c_41 : Ref sig .tc := ⟨.hbm, 284, rfl⟩
abbrev main_v174 : Ref sig .tc := ⟨.hbm, 285, rfl⟩
abbrev main_v175 : Ref sig .tc := ⟨.hbm, 286, rfl⟩
abbrev main_c_42 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_call7_v0 : Ref sig .tc := ⟨.hbm, 293, rfl⟩
abbrev main_call7_cst : Ref sig .tc := ⟨.hbm, 294, rfl⟩
abbrev main_call7_v1 : Ref sig .tc := ⟨.hbm, 295, rfl⟩
abbrev main_call7_v2 : Ref sig .tc := ⟨.hbm, 296, rfl⟩
abbrev main_v181 : Ref sig .tc := ⟨.hbm, 297, rfl⟩
abbrev main_cst_43 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_cst_44 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩

abbrev nD : Nat := 1
abbrev τ : Topo := Topo.v7x

variable {F : FTy → Type} [FloatOps F]
-- ==== Proof.Mesh.lean ====
/-
  THE MATHEMATICS both programs compute, in closed form, over the extended reals: the bilinear samples of an image at the
  128 × 128 grid of vertices of one cube face, the unit normals of its triangles, the vertex normals and the displaced vertices.
-/
module

public import Idealize.ShloMosaic.Lib.Pointwise

@[expose] public section

set_option maxRecDepth 16384

noncomputable section

namespace Cert.Mesh

open Idealize.ShloMosaic

/-- The image row (or column) at or below the sample point of grid line `k`: the sample point is `255 k / 127`. -/
def lo (k : Fin 128) : Fin 256 := ⟨if k.val < 127 then 2 * k.val else 255, by split <;> omega⟩

/-- The image row (or column) above the sample point of grid line `k`, clipped to the image. -/
def hi (k : Fin 128) : Fin 256 := ⟨if k.val < 127 then 2 * k.val + 1 else 255, by split <;> omega⟩

/-- The weight of the upper neighbour at grid line `k`. -/
def wt (k : Fin 128) : ℝ := if k.val < 127 then (k.val : ℝ) / 127 else 0

/-- The weights lie between 0 and 1. -/
theorem wt_nonneg (k : Fin 128) : 0 ≤ wt k := by
  unfold wt; split
  · positivity
  · exact le_refl _

/-- The weights lie between 0 and 1. -/
theorem wt_le_one (k : Fin 128) : wt k ≤ 1 := by
  unfold wt; split
  · rename_i h
    have : (k.val : ℝ) ≤ 127 := by exact_mod_cast h.le
    rw [div_le_one (by norm_num)]; exact this
  · exact zero_le_one

/-- The bilinear sample of an image at vertex `(i, j)`. -/
def sample (img : Fin 256 → Fin 256 → EReal) (i j : Fin 128) : EReal :=
  (img (lo i) (lo j) * ((1 - wt j : ℝ) : EReal) + img (lo i) (hi j) * ((wt j : ℝ) : EReal)) * ((1 - wt i : ℝ) : EReal)
    + (img (hi i) (lo j) * ((1 - wt j : ℝ) : EReal) + img (hi i) (hi j) * ((wt j : ℝ) : EReal)) * ((wt i : ℝ) : EReal)

/-- A grid of values continued by zero past its last row and column. -/
def ext (f : Fin 128 → Fin 128 → EReal) (i j : ℕ) : EReal :=
  if h : i < 128 ∧ j < 128 then f ⟨i, h.1⟩ ⟨j, h.2⟩ else 0

/-- The small number added to a length before dividing by it. -/
def eps : EReal := Ideal.ofBits .f32 0x2B8CBCCC#32

/-- The largest displacement, as a ratio. -/
def ratio : EReal := Ideal.ofBits .f32 0x3C4CCCCD#32

/-- The cross product, by components. -/
def cross (u v : Fin 3 → EReal) : Fin 3 → EReal :=
  ![u 1 * v 2 - u 2 * v 1, u 2 * v 0 - u 0 * v 2, u 0 * v 1 - u 1 * v 0]

/-- The length of a vector plus `eps`. -/
def len (n : Fin 3 → EReal) : EReal := Ideal.sqrt (n 0 * n 0 + n 1 * n 1 + n 2 * n 2) + eps

/-- A vector divided by its length plus `eps`. -/
def unit (n : Fin 3 → EReal) (c : Fin 3) : EReal := Ideal.div (n c) (len n)

/-- The unit normal of the first triangle of cell `(i, j)`: corners `(i, j)`, `(i+1, j)`, `(i, j+1)`. -/
def triA (P : Fin 3 → ℕ → ℕ → EReal) (i j : ℕ) (c : Fin 3) : EReal :=
  unit (cross (fun c => P c (i + 1) j - P c i j) (fun c => P c i (j + 1) - P c i j)) c

/-- The unit normal of the second triangle of cell `(i, j)`: corners `(i, j+1)`, `(i+1, j)`, `(i+1, j+1)`. -/
def triB (P : Fin 3 → ℕ → ℕ → EReal) (i j : ℕ) (c : Fin 3) : EReal :=
  unit (cross (fun c => P c (i + 1) j - P c i (j + 1)) (fun c => P c (i + 1) (j + 1) - P c i (j + 1))) c

/-- A value of the cells, zero at the vertices `(i, j)` with no cell `(i − di, j − dj)`. -/
def cell (f : ℕ → ℕ → EReal) (di dj i j : ℕ) : EReal :=
  if (di ≤ i ∧ i - di < 127) ∧ (dj ≤ j ∧ j - dj < 127) then f (i - di) (j - dj) else 0

/-- The vertex normal at `(i, j)`: the sum of the unit normals of the triangles that meet there. -/
def vnorm (P : Fin 3 → ℕ → ℕ → EReal) (i j : ℕ) (c : Fin 3) : EReal :=
  cell (fun i j => triA P i j c) 0 0 i j + cell (fun i j => triA P i j c) 1 0 i j + cell (fun i j => triA P i j c) 0 1 i j
    + cell (fun i j => triB P i j c) 0 1 i j + cell (fun i j => triB P i j c) 1 0 i j + cell (fun i j => triB P i j c) 1 1 i j

/-- The displaced vertex `(i, j)`, channel `c`: the sample plus the unit vertex normal times the displacement of parameter `p`. -/
def displaced (P : Fin 3 → ℕ → ℕ → EReal) (p : EReal) (i j : ℕ) (c : Fin 3) : EReal :=
  P c i j + unit (vnorm P i j) c * (Ideal.div 1 (1 + Ideal.exp (-p)) * ratio)

/-- The vertices of face `f`, continued by zero. -/
def mverts (a : (⟨4, ![6, 3, 256, 256]⟩ : Shape).Idx → EReal) (f : Fin 6) (c : Fin 3) : ℕ → ℕ → EReal :=
  ext (sample fun h w => a (ix4 f c h w))

/-- The displaced vertices of all faces: element `(f, c, i, j)` from the images `a` and the displacement parameters `p`. -/
def mesh (a : (⟨4, ![6, 3, 256, 256]⟩ : Shape).Idx → EReal) (p : (⟨4, ![6, 1, 128, 128]⟩ : Shape).Idx → EReal) (f : Fin 6) (c : Fin 3) (i j : Fin 128) : EReal :=
  displaced (mverts a f) (p (ix4 f 0 i j)) i.val j.val c

end Cert.Mesh

end
-- ==== Proof.Table.lean ====
/-
  THE INTERPOLATION TABLE the kernel's two matrices are: row `k` has the weight `1 − wt k` in column `lo k` and `wt k` in column
  `hi k`, added where the two columns are one.
-/
module

public import proofs.«01_k».proof.Proof.Gen.KernelIdeal.Value
public import proofs.«01_k».proof.Proof.Mesh

@[expose] public section

set_option maxRecDepth 16384

noncomputable section

namespace Cert.KernelIdeal.KVal

open Cert.KernelIdeal Cert.KernelIdeal.Gen Idealize.ShloMosaic Idealize.ShloMosaic.TcCoe
open Cert.Mesh

variable {F : FTy → Type} [FloatOps F]

/-- The lower neighbour of each row, as the words the host computes. -/
def loW : IVec S128x256 32 :=
  minsi (broadcastInDim S128x256 ![] bcast_S_S128x256 (constantI S_ 32 255#32))
    (maxsi (broadcastInDim S128x256 ![] bcast_S_S128x256 (constantI S_ 32 0#32))
      (Host.divsi (muli (iotaInDim S128x256 32 0) (broadcastInDim S128x256 ![] bcast_S_S128x256 (constantI S_ 32 255#32)))
        (broadcastInDim S128x256 ![] bcast_S_S128x256 (constantI S_ 32 127#32))))

/-- The upper neighbour of each row, as the words the host computes. -/
def hiW : IVec S128x256 32 :=
  minsi (broadcastInDim S128x256 ![] bcast_S_S128x256 (constantI S_ 32 255#32))
    (maxsi (broadcastInDim S128x256 ![] bcast_S_S128x256 (constantI S_ 32 0#32))
      (addi loW (broadcastInDim S128x256 ![] bcast_S_S128x256 (constantI S_ 32 1#32))))

/-- The numerator of the upper neighbour's weight over 127. -/
def numW : IVec S128x256 32 :=
  subi (muli (iotaInDim S128x256 32 0) (broadcastInDim S128x256 ![] bcast_S_S128x256 (constantI S_ 32 255#32)))
    (muli loW (broadcastInDim S128x256 ![] bcast_S_S128x256 (constantI S_ 32 127#32)))

/-- The interpolation table as the host computes it. -/
def tabV : FVec F S128x256 .f32 :=
  Host.divf (sitofp .f32 (addi
      (select (cmpi .eq (iotaInDim S128x256 32 1) loW)
        (subi (broadcastInDim S128x256 ![] bcast_S_S128x256 (constantI S_ 32 127#32)) numW)
        (broadcastInDim S128x256 ![] bcast_S_S128x256 (constantI S_ 32 0#32)))
      (select (cmpi .eq (iotaInDim S128x256 32 1) hiW) numW
        (broadcastInDim S128x256 ![] bcast_S_S128x256 (constantI S_ 32 0#32)))))
    (broadcastInDim S128x256 ![] bcast_S_S128x256 (constant S_ .f32 0x42FE0000#32))

open Idealize.ShloMosaic.StableHlo

/-- The host line up to the first lower neighbours. -/
theorem seg1 (W : Valuation τ sig (Elt F)) :
    after hostOps0_1 (after hostOps0 W) (Proc.devRef .tc main_v6) = loW := by
  simp only [hostOps0, hostOps0_1]
  after_results_simp
  rfl
/-- The row numbers of the first table. -/
theorem seg1_v0 (W : Valuation τ sig (Elt F)) :
    after hostOps0_1 (after hostOps0 W) (Proc.devRef .tc main_v0) = iotaInDim S128x256 32 0 := by
  simp only [hostOps0, hostOps0_1]
  after_results_simp
/-- The column numbers of the first table. -/
theorem seg1_v1 (W : Valuation τ sig (Elt F)) :
    after hostOps0_1 (after hostOps0 W) (Proc.devRef .tc main_v1) = iotaInDim S128x256 32 1 := by
  simp only [hostOps0, hostOps0_1]
  after_results_simp

/-- The first table's upper neighbours from its lower ones. -/
theorem seg2 (W : Valuation τ sig (Elt F)) :
    after hostOps0_3 (after hostOps0_2 W) (Proc.devRef .tc main_v9)
      = minsi (broadcastInDim S128x256 ![] bcast_S_S128x256 (constantI S_ 32 255#32))
          (maxsi (broadcastInDim S128x256 ![] bcast_S_S128x256 (constantI S_ 32 0#32))
            (addi (W (Proc.devRef .tc main_v6)) (broadcastInDim S128x256 ![] bcast_S_S128x256 (constantI S_ 32 1#32)))) := by
  simp only [hostOps0_2, hostOps0_3]
  after_results_simp
  rfl
/-- The line to the upper neighbours keeps the row numbers. -/
theorem seg2_v0 (W : Valuation τ sig (Elt F)) :
    after hostOps0_3 (after hostOps0_2 W) (Proc.devRef .tc main_v0) = W (Proc.devRef .tc main_v0) := by
  simp only [hostOps0_2, hostOps0_3]
  after_results_simp
/-- The line to the upper neighbours keeps the column numbers. -/
theorem seg2_v1 (W : Valuation τ sig (Elt F)) :
    after hostOps0_3 (after hostOps0_2 W) (Proc.devRef .tc main_v1) = W (Proc.devRef .tc main_v1) := by
  simp only [hostOps0_2, hostOps0_3]
  after_results_simp
/-- The line to the upper neighbours keeps the lower ones. -/
theorem seg2_v6 (W : Valuation τ sig (Elt F)) :
    after hostOps0_3 (after hostOps0_2 W) (Proc.devRef .tc main_v6) = W (Proc.devRef .tc main_v6) := by
  simp only [hostOps0_2, hostOps0_3]
  after_results_simp

/-- The numerators as a function of the row numbers and the lower neighbours. -/
def numOf (r l : IVec S128x256 32) : IVec S128x256 32 :=
  subi (muli r (broadcastInDim S128x256 ![] bcast_S_S128x256 (constantI S_ 32 255#32)))
    (muli l (broadcastInDim S128x256 ![] bcast_S_S128x256 (constantI S_ 32 127#32)))

/-- The table as a function of the row numbers, column numbers, lower and upper neighbours. -/
def tabOf (r q l h : IVec S128x256 32) : FVec F S128x256 .f32 :=
  Host.divf (sitofp .f32 (addi
      (select (cmpi .eq q l)
        (subi (broadcastInDim S128x256 ![] bcast_S_S128x256 (constantI S_ 32 127#32)) (numOf r l))
        (broadcastInDim S128x256 ![] bcast_S_S128x256 (constantI S_ 32 0#32)))
      (select (cmpi .eq q h) (numOf r l)
        (broadcastInDim S128x256 ![] bcast_S_S128x256 (constantI S_ 32 0#32)))))
    (broadcastInDim S128x256 ![] bcast_S_S128x256 (constant S_ .f32 0x42FE0000#32))

/-- The first table from its row numbers, column numbers and neighbours. -/
theorem seg3 (W : Valuation τ sig (Elt F)) :
    after hostOps0_8 (after hostOps0_7 (after hostOps0_6 (after hostOps0_5 (after hostOps0_4 W)))) (Proc.devRef .tc main_v24)
      = (tabOf (W (Proc.devRef .tc main_v0)) (W (Proc.devRef .tc main_v1)) (W (Proc.devRef .tc main_v6)) (W (Proc.devRef .tc main_v9)) : FVec F S128x256 .f32) := by
  simp only [hostOps0_4, hostOps0_5, hostOps0_6, hostOps0_7, hostOps0_8]
  after_results_simp
  rfl

/-- The second table's line keeps the first table. -/
theorem seg4_v24 (W : Valuation τ sig (Elt F)) :
    after hostOps0_16 (after hostOps0_15 (after hostOps0_14 (after hostOps0_13 (after hostOps0_12 (after hostOps0_11 (after hostOps0_10 (after hostOps0_9 W))))))) (Proc.devRef .tc main_v24)
      = W (Proc.devRef .tc main_v24) := by
  simp only [hostOps0_9, hostOps0_10, hostOps0_11, hostOps0_12, hostOps0_13, hostOps0_14, hostOps0_15, hostOps0_16]
  after_results_simp

/-- The host line up to the second lower neighbours. -/
theorem seg5 (W : Valuation τ sig (Elt F)) :
    after hostOps0_9 (after hostOps0_8 W) (Proc.devRef .tc main_v31) = loW := by
  simp only [hostOps0_8, hostOps0_9]
  after_results_simp
  rfl
/-- The row numbers of the second table. -/
theorem seg5_v25 (W : Valuation τ sig (Elt F)) :
    after hostOps0_9 (after hostOps0_8 W) (Proc.devRef .tc main_v25) = iotaInDim S128x256 32 0 := by
  simp only [hostOps0_8, hostOps0_9]
  after_results_simp
/-- The column numbers of the second table. -/
theorem seg5_v26 (W : Valuation τ sig (Elt F)) :
    after hostOps0_9 (after hostOps0_8 W) (Proc.devRef .tc main_v26) = iotaInDim S128x256 32 1 := by
  simp only [hostOps0_8, hostOps0_9]
  after_results_simp

/-- The second table's upper neighbours from its lower ones. -/
theorem seg6 (W : Valuation τ sig (Elt F)) :
    after hostOps0_11 (after hostOps0_10 W) (Proc.devRef .tc main_v34)
      = minsi (broadcastInDim S128x256 ![] bcast_S_S128x256 (constantI S_ 32 255#32))
          (maxsi (broadcastInDim S128x256 ![] bcast_S_S128x256 (constantI S_ 32 0#32))
            (addi (W (Proc.devRef .tc main_v31)) (broadcastInDim S128x256 ![] bcast_S_S128x256 (constantI S_ 32 1#32)))) := by
  simp only [hostOps0_10, hostOps0_11]
  after_results_simp
  rfl
/-- The line to the second upper neighbours keeps the row numbers. -/
theorem seg6_v25 (W : Valuation τ sig (Elt F)) :
    after hostOps0_11 (after hostOps0_10 W) (Proc.devRef .tc main_v25) = W (Proc.devRef .tc main_v25) := by
  simp only [hostOps0_10, hostOps0_11]
  after_results_simp
/-- The line to the second upper neighbours keeps the column numbers. -/
theorem seg6_v26 (W : Valuation τ sig (Elt F)) :
    after hostOps0_11 (after hostOps0_10 W) (Proc.devRef .tc main_v26) = W (Proc.devRef .tc main_v26) := by
  simp only [hostOps0_10, hostOps0_11]
  after_results_simp
/-- The line to the second upper neighbours keeps the lower ones. -/
theorem seg6_v31 (W : Valuation τ sig (Elt F)) :
    after hostOps0_11 (after hostOps0_10 W) (Proc.devRef .tc main_v31) = W (Proc.devRef .tc main_v31) := by
  simp only [hostOps0_10, hostOps0_11]
  after_results_simp

/-- The second table, transposed, from its row numbers, column numbers and neighbours. -/
theorem seg7 (W : Valuation τ sig (Elt F)) :
    after hostOps0_16 (after hostOps0_15 (after hostOps0_14 (after hostOps0_13 (after hostOps0_12 W)))) (Proc.devRef .tc main_v50)
      = transpose S256x128 [1, 0] (tabOf (W (Proc.devRef .tc main_v25)) (W (Proc.devRef .tc main_v26)) (W (Proc.devRef .tc main_v31)) (W (Proc.devRef .tc main_v34)) : FVec F S128x256 .f32) transposes_S128x256_S256x128_1_0 := by
  simp only [hostOps0_12, hostOps0_13, hostOps0_14, hostOps0_15, hostOps0_16]
  after_results_simp
  rfl

/-- The table at the row numbers, the column numbers and the neighbours. -/
theorem tabOf_eq : (tabOf (iotaInDim S128x256 32 0) (iotaInDim S128x256 32 1) loW
    (minsi (broadcastInDim S128x256 ![] bcast_S_S128x256 (constantI S_ 32 255#32))
          (maxsi (broadcastInDim S128x256 ![] bcast_S_S128x256 (constantI S_ 32 0#32))
            (addi loW (broadcastInDim S128x256 ![] bcast_S_S128x256 (constantI S_ 32 1#32))))) : FVec F S128x256 .f32) = tabV := rfl

/-- The first matrix holds the table when the kernel starts. -/
theorem V_v24 (m : (ℓ : Loc nD τ sig) → Buf (Elt F) ℓ) (c : Dev nD) :
    V m c main_v24 = (tabV : FVec F S128x256 .f32) := by
  show StableHlo.after (List.flatten _) _ (Proc.devRef .tc main_v24) = _
  simp only [List.flatten_cons, List.flatten_nil, List.append_nil, after_append]
  rw [seg4_v24, seg3, seg2, seg2_v0, seg2_v1, seg2_v6, seg1, seg1_v0, seg1_v1, tabOf_eq]

/-- The second matrix holds the transposed table when the kernel starts. -/
theorem V_v50 (m : (ℓ : Loc nD τ sig) → Buf (Elt F) ℓ) (c : Dev nD) :
    V m c main_v50 = (transpose S256x128 [1, 0] (tabV : FVec F S128x256 .f32) transposes_S128x256_S256x128_1_0) := by
  show StableHlo.after (List.flatten _) _ (Proc.devRef .tc main_v50) = _
  simp only [List.flatten_cons, List.flatten_nil, List.append_nil, after_append]
  rw [seg7, seg6, seg6_v25, seg6_v26, seg6_v31, seg5, seg5_v25, seg5_v26, tabOf_eq]

end Cert.KernelIdeal.KVal

end
-- ==== Proof.TableAt.lean ====
/-
  THE INTERPOLATION TABLE AT AN ENTRY: row `k` has the weight `1 − wt k` in column `lo k` and `wt k` in column `hi k`, added where
  the two columns are one; a row of it applied to a family of numbers.
-/
module

public import proofs.«01_k».proof.Proof.Table

@[expose] public section

set_option maxRecDepth 16384

noncomputable section

namespace Cert.KernelIdeal.KVal

open Cert.KernelIdeal Cert.KernelIdeal.Gen Idealize.ShloMosaic Idealize.ShloMosaic.TcCoe
open Cert.Mesh

/-- The host's words for the neighbours and the numerator of each row. -/
theorem tab_word : ∀ k : Fin 128,
    (IntOp.minsi 255#32 (IntOp.maxsi 0#32 (IntOp.divsi .host (IntOp.muli (BitVec.ofNat 32 k.val) 255#32) 127#32))
      = BitVec.ofNat 32 (lo k).val) ∧
    (IntOp.minsi 255#32 (IntOp.maxsi 0#32 (IntOp.addi (BitVec.ofNat 32 (lo k).val) 1#32)) = BitVec.ofNat 32 (hi k).val) ∧
    (IntOp.subi (IntOp.muli (BitVec.ofNat 32 k.val) 255#32) (IntOp.muli (BitVec.ofNat 32 (lo k).val) 127#32)
      = BitVec.ofNat 32 (if k.val < 127 then k.val else 0)) := by
  decide +kernel

/-- The four possible numerators, read as integers. -/
theorem num_word : ∀ k : Fin 128,
    (IntOp.addi (IntOp.subi 127#32 (BitVec.ofNat 32 (if k.val < 127 then k.val else 0))) (BitVec.ofNat 32 (if k.val < 127 then k.val else 0))).toInt = 127 ∧
    (IntOp.addi (IntOp.subi 127#32 (BitVec.ofNat 32 (if k.val < 127 then k.val else 0))) 0#32).toInt = 127 - ((if k.val < 127 then k.val else 0 : ℕ) : ℤ) ∧
    (IntOp.addi 0#32 (BitVec.ofNat 32 (if k.val < 127 then k.val else 0))).toInt = ((if k.val < 127 then k.val else 0 : ℕ) : ℤ) ∧
    (IntOp.addi 0#32 0#32 : BitVec 32).toInt = 0 := by
  decide +kernel

/-- The lower neighbour of row `k`, as a word. -/
theorem loW_apply (k : Fin 128) (h : Fin 256) : loW (ix2 k h) = BitVec.ofNat 32 (lo k).val := by
  rw [← (tab_word k).1]
  pointwise [loW]

/-- The upper neighbour of row `k`, as a word. -/
theorem hiW_apply (k : Fin 128) (h : Fin 256) : hiW (ix2 k h) = BitVec.ofNat 32 (hi k).val := by
  rw [← (tab_word k).2.1, ← loW_apply k h]
  pointwise [hiW]

/-- The numerator of row `k`'s upper weight, as a word. -/
theorem numW_apply (k : Fin 128) (h : Fin 256) : numW (ix2 k h) = BitVec.ofNat 32 (if k.val < 127 then k.val else 0) := by
  rw [← (tab_word k).2.2, ← loW_apply k h]
  pointwise [numW]

/-- The float constant 127. -/
theorem ofBits_127 : Ideal.ofBits .f32 0x42FE0000#32 = ((127 : ℝ) : EReal) := by
  simp [Ideal.ofBits, Ideal.ieee, -EReal.coe_mul]; norm_num

/-- Comparing two small numbers as words is comparing them. -/
theorem select_eq_ofNat {α : Type} (h l : Fin 256) (x y : α) :
    Scalar.select (IntOp.cmpi .eq (BitVec.ofNat 32 h.val) (BitVec.ofNat 32 l.val)) x y = if h = l then x else y := by
  by_cases e : h = l
  · subst e
    simp [Scalar.select, IntOp.cmpi]
  · have : BitVec.ofNat 32 h.val ≠ BitVec.ofNat 32 l.val := by
      intro q
      have q' := congrArg BitVec.toNat q
      simp only [BitVec.toNat_ofNat] at q'
      exact e (Fin.ext (by omega))
    have b : (BitVec.ofNat 32 h.val == BitVec.ofNat 32 l.val) = false := beq_eq_false_iff_ne.2 this
    simp [Scalar.select, IntOp.cmpi, b, e]

/-- The table's entry at row `k`, column `h`. -/
def tab (k : Fin 128) (h : Fin 256) : EReal :=
  (((if h = lo k then 1 - wt k else 0) + (if h = hi k then wt k else 0) : ℝ) : EReal)

/-- The numerator's weight over 127. -/
theorem wt_eq (k : Fin 128) : wt k = (((if k.val < 127 then k.val else 0 : ℕ) : ℤ) : ℝ) * (1 / 127) := by
  unfold wt; split
  · push_cast; ring
  · simp

/-- The table's entries are the weights. -/
theorem tabV_apply (k : Fin 128) (h : Fin 256) : (tabV (F := Ideal)) (ix2 k h) = tab k h := by
  pointwise [tabV, loW_apply, hiW_apply, numW_apply]
  rw [select_eq_ofNat, select_eq_ofNat, ofBits_127, Ideal.div_coe (by norm_num)]
  show ((BitVec.toInt _ : ℝ) : EReal) * _ = _
  rw [← EReal.coe_mul]
  unfold tab
  refine congrArg _ ?_
  obtain ⟨h1, h2, h3, h4⟩ := num_word k
  rw [wt_eq]
  by_cases ha : h = lo k <;> by_cases hb : h = hi k
  · rw [if_pos ha, if_pos hb, if_pos ha, if_pos hb, h1]; push_cast; ring
  · rw [if_pos ha, if_neg hb, if_pos ha, if_neg hb, h2]; push_cast; ring
  · rw [if_neg ha, if_pos hb, if_neg ha, if_pos hb, h3]; push_cast; ring
  · rw [if_neg ha, if_neg hb, if_neg ha, if_neg hb, h4]; push_cast; ring

/-- A row of the table applied to a family of numbers: the weighted sum at the two neighbours. -/
theorem sum_tab (k : Fin 128) (f : Fin 256 → EReal) :
    ∑ h, f h * tab k h = f (lo k) * ((1 - wt k : ℝ) : EReal) + f (hi k) * ((wt k : ℝ) : EReal) := by
  have e : ∀ h, f h * tab k h = (if h = lo k then f h * ((1 - wt k : ℝ) : EReal) else 0) + (if h = hi k then f h * ((wt k : ℝ) : EReal) else 0) := by
    intro h
    unfold tab
    rw [EReal.coe_add, EReal.left_distrib_of_nonneg]
    · congr 1 <;> split <;> simp
    · split
      · exact_mod_cast sub_nonneg.2 (wt_le_one k)
      · simp
    · split
      · exact_mod_cast wt_nonneg k
      · simp
  rw [Finset.sum_congr rfl fun h _ => e h, Finset.sum_add_distrib]
  simp

end Cert.KernelIdeal.KVal

end
-- ==== Proof.Block.lean ====
/-
  ONE BLOCK OF THE KERNEL, element by element: what the kernel's body stores at vertex `(i, j)`, channel `c`, is the displaced vertex
  of the products of its two matrices with the image.
-/
module

public import proofs.«01_k».proof.Proof.TableAt

@[expose] public section

set_option maxRecDepth 16384

noncomputable section

namespace Cert.KernelIdeal.KVal

open Cert.KernelIdeal Cert.KernelIdeal.Gen Idealize.ShloMosaic Idealize.ShloMosaic.TcCoe
open Cert.Mesh

/-- The vector's elements are the values of `f`, at row and column numbers. -/
def Reads (v : FVec Ideal S128x128 .f32) (f : ℕ → ℕ → EReal) : Prop := ∀ i j : Fin 128, v (ix2 i j) = f i.val j.val

/-- Rows moved up by one, a row of zeros last. -/
theorem shiftUp {v : FVec Ideal S128x128 .f32} {f : ℕ → ℕ → EReal} (hv : Reads v f) (hz : ∀ j, f 128 j = 0) :
    Reads (concatenate S128x128 0 [⟨S127x128, extractStridedSlice S127x128 ![1, 0] v slices_S128x128_o1_0_S127x128⟩,
      ⟨S1x128, broadcast S1x128 (Scalar.ofBits (F := Ideal) .f32 0x00000000#32)⟩] concatenates_S127x128_S1x128_S128x128_d0)
      (fun i j => f (i + 1) j) := by
  intro i j
  pointwise
  split
  · rw [hv]; exact congrArg (f · j.val) (Nat.add_comm 1 i.val)
  · rw [show i.val + 1 = 128 by omega, hz]

/-- Columns moved left by one, a column of zeros last. -/
theorem shiftLeft {v : FVec Ideal S128x128 .f32} {f : ℕ → ℕ → EReal} (hv : Reads v f) (hz : ∀ i, f i 128 = 0) :
    Reads (concatenate S128x128 1 [⟨S128x127, extractStridedSlice S128x127 ![0, 1] v slices_S128x128_o0_1_S128x127⟩,
      ⟨S128x1, broadcast S128x1 (Scalar.ofBits (F := Ideal) .f32 0x00000000#32)⟩] concatenates_S128x127_S128x1_S128x128_d1)
      (fun i j => f i (j + 1)) := by
  intro i j
  pointwise
  split
  · rw [hv]; exact congrArg (f i.val) (Nat.add_comm 1 j.val)
  · rw [show j.val + 1 = 128 by omega, hz]

/-- Rows moved down by one, a row of zeros first. -/
theorem shiftDown {v : FVec Ideal S128x128 .f32} {f : ℕ → ℕ → EReal} (hv : Reads v f) :
    Reads (concatenate S128x128 0 [⟨S1x128, broadcast S1x128 (Scalar.ofBits (F := Ideal) .f32 0x00000000#32)⟩,
      ⟨S127x128, extractStridedSlice S127x128 ![0, 0] v slices_S128x128_o0_0_S127x128⟩] concatenates_S1x128_S127x128_S128x128_d0)
      (fun i j => if 1 ≤ i then f (i - 1) j else 0) := by
  intro i j
  pointwise
  split
  · rw [if_neg (by omega)]
  · exact (hv ⟨i.val - 1, by omega⟩ j).trans (if_pos (show 1 ≤ i.val by omega)).symm

/-- Columns moved right by one, a column of zeros first. -/
theorem shiftRight {v : FVec Ideal S128x128 .f32} {f : ℕ → ℕ → EReal} (hv : Reads v f) :
    Reads (concatenate S128x128 1 [⟨S128x1, broadcast S128x1 (Scalar.ofBits (F := Ideal) .f32 0x00000000#32)⟩,
      ⟨S128x127, extractStridedSlice S128x127 ![0, 0] v slices_S128x128_o0_0_S128x127⟩] concatenates_S128x1_S128x127_S128x128_d1)
      (fun i j => if 1 ≤ j then f i (j - 1) else 0) := by
  intro i j
  pointwise
  split
  · rw [if_neg (by omega)]
  · exact (hv i ⟨j.val - 1, by omega⟩).trans (if_pos (show 1 ≤ j.val by omega)).symm

/-- Comparing a small number with 127 as words. -/
theorem slt_word : ∀ i : Fin 128, IntOp.cmpi CmpIPredicate.slt (BitVec.ofNat 32 i.val) 127#32 = if i.val < 127 then 1#1 else 0#1 := by
  decide +kernel

/-- The mask's words, read as integers. -/
theorem mask_word (i j : Fin 128) :
    (BitVec.setWidth 32 (IntOp.andi (IntOp.cmpi CmpIPredicate.slt (BitVec.ofNat 32 i.val) 127#32)
      (IntOp.cmpi CmpIPredicate.slt (BitVec.ofNat 32 j.val) 127#32))).toInt = if i.val < 127 ∧ j.val < 127 then 1 else 0 := by
  rw [slt_word, slt_word]
  by_cases h : i.val < 127 <;> by_cases h' : j.val < 127 <;> simp only [h, h', if_true, if_false, and_true, and_false] <;> decide

/-- The kernel's mask of the vertices that have a cell. -/
theorem mask_apply (i j : Fin 128) :
    (k0_pay42 (F := Ideal) (iota .tc S128x128 32 [0] iota_S128x128_d0_w32) (iota .tc S128x128 32 [1] iota_S128x128_d1_w32)) (ix2 i j)
      = if i.val < 127 ∧ j.val < 127 then 1 else 0 := by
  pointwise [k0_pay42]
  have e := mask_word i j
  show ((BitVec.toInt _ : ℝ) : EReal) = _
  rw [e]
  split <;> simp

/-- The product of the two matrices with a channel of the image, at a vertex. -/
def prod (v2 : Vec Ideal S128x256 .f32) (v4 : Vec Ideal S256x128 .f32) (x : Fin 256 → Fin 256 → EReal) (i j : Fin 128) : EReal :=
  ∑ h : Fin 256, v2 (ix2 i h) * ∑ w : Fin 256, x h w * v4 (ix2 w j)

/-- The displacement at a vertex. -/
theorem pay48_apply (v : Vec Ideal S1x1x128x128 .f32) (i j : Fin 128) :
    k0_pay48 v (ix2 i j) = Ideal.div 1 (1 + Ideal.exp (-(v (ix4 0 0 i j)))) * ratio := by
  pointwise [k0_pay48, ratio]
  rw [zero_sub]

/-- A masked field of the cells. -/
theorem masked {v : FVec Ideal S128x128 .f32} {f : ℕ → ℕ → EReal} (hv : Reads v f) :
    Reads (mulf v (k0_pay42 (F := Ideal) (iota .tc S128x128 32 [0] iota_S128x128_d0_w32) (iota .tc S128x128 32 [1] iota_S128x128_d1_w32)))
      (cell f 0 0) := by
  intro i j
  pointwise
  rw [mask_apply, hv]
  unfold cell
  by_cases h : i.val < 127 ∧ j.val < 127
  · rw [if_pos h, if_pos (by omega), mul_one]; rfl
  · rw [if_neg h, if_neg (by omega), mul_zero]

/-- A field of the cells at the vertex below each. -/
theorem cell_down (f : ℕ → ℕ → EReal) (dj : ℕ) : (fun i j => if 1 ≤ i then cell f 0 dj (i - 1) j else 0) = cell f 1 dj := by
  funext i j
  unfold cell
  by_cases h : 1 ≤ i
  · simp only [h, if_true, Nat.sub_zero, true_and, Nat.zero_le]
  · rw [if_neg h, if_neg (by omega)]

/-- A field of the cells at the vertex to the right of each. -/
theorem cell_right (f : ℕ → ℕ → EReal) (di : ℕ) : (fun i j => if 1 ≤ j then cell f di 0 i (j - 1) else 0) = cell f di 1 := by
  funext i j
  unfold cell
  by_cases h : 1 ≤ j
  · simp only [h, if_true, Nat.sub_zero, true_and, Nat.zero_le]
  · rw [if_neg h, if_neg (by omega)]

/-- A masked field of the cells, moved down. -/
theorem maskedDown {v : FVec Ideal S128x128 .f32} {f : ℕ → ℕ → EReal} {dj : ℕ} (hv : Reads v (cell f 0 dj)) :
    Reads (concatenate S128x128 0 [⟨S1x128, broadcast S1x128 (Scalar.ofBits (F := Ideal) .f32 0x00000000#32)⟩,
      ⟨S127x128, extractStridedSlice S127x128 ![0, 0] v slices_S128x128_o0_0_S127x128⟩] concatenates_S1x128_S127x128_S128x128_d0)
      (cell f 1 dj) := by
  rw [← cell_down]; exact shiftDown hv

/-- A masked field of the cells, moved right. -/
theorem maskedRight {v : FVec Ideal S128x128 .f32} {f : ℕ → ℕ → EReal} {di : ℕ} (hv : Reads v (cell f di 0)) :
    Reads (concatenate S128x128 1 [⟨S128x1, broadcast S128x1 (Scalar.ofBits (F := Ideal) .f32 0x00000000#32)⟩,
      ⟨S128x127, extractStridedSlice S128x127 ![0, 0] v slices_S128x128_o0_0_S128x127⟩] concatenates_S128x1_S128x127_S128x128_d1)
      (cell f di 1) := by
  rw [← cell_right]; exact shiftRight hv

/-- The sum of two vectors. -/
theorem Reads.add {v w : FVec Ideal S128x128 .f32} {f g : ℕ → ℕ → EReal} (hv : Reads v f) (hw : Reads w g) :
    Reads (addf v w) (fun i j => f i j + g i j) := fun i j => congrArg₂ (· + ·) (hv i j) (hw i j)

section
variable (P : Fin 3 → ℕ → ℕ → EReal)
  {v9 v13 v17 v20 v23 v26 v29 : FVec Ideal S128x128 .f32} {v30 : FVec Ideal S128x127 .f32} {v31 : FVec Ideal S128x1 .f32}
  (h9 : Reads v9 (P 0)) (h13 : Reads v13 (P 1)) (h17 : Reads v17 (P 2))
  (h20 : Reads v20 (fun i j => P 0 (i + 1) j)) (h23 : Reads v23 (fun i j => P 1 (i + 1) j)) (h26 : Reads v26 (fun i j => P 2 (i + 1) j))
  (h29 : Reads v29 (fun i j => P 0 i (j + 1))) (h30 : Reads (k0_pay16 v30 v31) (fun i j => P 1 i (j + 1)))
  (h17r : Reads (k0_pay17 v17) (fun i j => P 2 i (j + 1)))
include h9 h13 h17 h20 h23 h26 h29 h30 h17r

/-- The first triangle's unit normal, component 0. -/
theorem pay34_reads : Reads (k0_pay34 v9 v13 v17 v20 v23 v26 v29 v30 v31) (fun i j => triA P i j 0) := by
  intro i j
  pointwise [k0_pay34, k0_pay33, k0_pay32, k0_pay31, k0_pay30, k0_pay18, k0_pay19, k0_pay20, k0_pay21, k0_pay22, k0_pay23]
  rw [h9 i j, h13 i j, h17 i j, h20 i j, h23 i j, h26 i j, h29 i j, h30 i j, h17r i j]
  rfl

/-- The first triangle's unit normal, component 1. -/
theorem pay35_reads : Reads (k0_pay35 v9 v13 v17 v20 v23 v26 v29 v30 v31) (fun i j => triA P i j 1) := by
  intro i j
  pointwise [k0_pay35, k0_pay33, k0_pay32, k0_pay31, k0_pay30, k0_pay18, k0_pay19, k0_pay20, k0_pay21, k0_pay22, k0_pay23]
  rw [h9 i j, h13 i j, h17 i j, h20 i j, h23 i j, h26 i j, h29 i j, h30 i j, h17r i j]
  rfl

/-- The first triangle's unit normal, component 2. -/
theorem pay36_reads : Reads (k0_pay36 v9 v13 v17 v20 v23 v26 v29 v30 v31) (fun i j => triA P i j 2) := by
  intro i j
  pointwise [k0_pay36, k0_pay33, k0_pay32, k0_pay31, k0_pay30, k0_pay18, k0_pay19, k0_pay20, k0_pay21, k0_pay22, k0_pay23]
  rw [h9 i j, h13 i j, h17 i j, h20 i j, h23 i j, h26 i j, h29 i j, h30 i j, h17r i j]
  rfl

end

section
variable (P : Fin 3 → ℕ → ℕ → EReal)
  {v17 v20 v23 v26 v29 : FVec Ideal S128x128 .f32} {v30 : FVec Ideal S128x127 .f32} {v31 : FVec Ideal S128x1 .f32}
  (hz : ∀ c i, P c i 128 = 0)
  (h20 : Reads v20 (fun i j => P 0 (i + 1) j)) (h23 : Reads v23 (fun i j => P 1 (i + 1) j)) (h26 : Reads v26 (fun i j => P 2 (i + 1) j))
  (h29 : Reads v29 (fun i j => P 0 i (j + 1))) (h30 : Reads (k0_pay16 v30 v31) (fun i j => P 1 i (j + 1)))
  (h17r : Reads (k0_pay17 v17) (fun i j => P 2 i (j + 1)))

/-- The cross product of the second triangle's edges. -/
def crossB (P : Fin 3 → ℕ → ℕ → EReal) (i j : ℕ) : Fin 3 → EReal :=
  cross (fun c => P c (i + 1) j - P c i (j + 1)) (fun c => P c (i + 1) (j + 1) - P c i (j + 1))

include hz
include h20 h29 in
/-- The second edge of the second triangle, component 0. -/
theorem pay27_reads : Reads (k0_pay27 v20 v29) (fun i j => P 0 (i + 1) (j + 1) - P 0 i (j + 1)) := fun i j =>
  congrArg₂ (· - ·) (shiftLeft h20 (fun i => hz 0 (i + 1)) i j) (h29 i j)
include h23 h30 in
/-- The second edge of the second triangle, component 1. -/
theorem pay28_reads : Reads (k0_pay28 v23 v30 v31) (fun i j => P 1 (i + 1) (j + 1) - P 1 i (j + 1)) := fun i j =>
  congrArg₂ (· - ·) (shiftLeft h23 (fun i => hz 1 (i + 1)) i j) (h30 i j)
include h26 h17r in
/-- The second edge of the second triangle, component 2. -/
theorem pay29_reads : Reads (k0_pay29 v17 v26) (fun i j => P 2 (i + 1) (j + 1) - P 2 i (j + 1)) := fun i j =>
  congrArg₂ (· - ·) (shiftLeft h26 (fun i => hz 2 (i + 1)) i j) (h17r i j)

include h23 h26 h30 h17r in
/-- The second triangle's normal, component 0. -/
theorem pay37_reads : Reads (k0_pay37 v17 v23 v26 v30 v31) (fun i j => crossB P i j 0) := by
  intro i j
  pointwise [k0_pay37, k0_pay25, k0_pay26]
  rw [h23 i j, h26 i j, h30 i j, h17r i j, pay28_reads P hz h23 h30 i j, pay29_reads P hz h26 h17r i j]
  rfl
include h20 h26 h29 h17r in
/-- The second triangle's normal, component 1. -/
theorem pay38_reads : Reads (k0_pay38 v17 v20 v26 v29) (fun i j => crossB P i j 1) := by
  intro i j
  pointwise [k0_pay38, k0_pay24, k0_pay26]
  rw [h20 i j, h26 i j, h29 i j, h17r i j, pay27_reads P hz h20 h29 i j, pay29_reads P hz h26 h17r i j]
  rfl
include h20 h23 h29 h30 in
/-- The second triangle's normal, component 2. -/
theorem pay39_reads : Reads (k0_pay39 v20 v23 v29 v30 v31) (fun i j => crossB P i j 2) := by
  intro i j
  pointwise [k0_pay39, k0_pay24, k0_pay25]
  rw [h20 i j, h23 i j, h29 i j, h30 i j, pay27_reads P hz h20 h29 i j, pay28_reads P hz h23 h30 i j]
  rfl
end

section
variable (P : Fin 3 → ℕ → ℕ → EReal) {v79 v82 v85 v86 : FVec Ideal S128x128 .f32}
  (h79 : Reads v79 (fun i j => crossB P i j 0)) (h82 : Reads v82 (fun i j => crossB P i j 1)) (h85 : Reads v85 (fun i j => crossB P i j 2))
  (h86 : Reads v86 (fun i j => crossB P i j 0 * crossB P i j 0))
include h82 h85 h86

/-- The length of the second triangle's normal plus `eps`. -/
theorem pay41_reads : Reads (k0_pay41 v82 v85 v86) (fun i j => len (crossB P i j)) := by
  intro i j
  pointwise [k0_pay41]
  rw [h82 i j, h85 i j, h86 i j]
  rfl

include h79 in
/-- The second triangle's masked unit normal, component 0. -/
theorem pay45_reads : Reads (k0_pay45 (iota .tc S128x128 32 [0] iota_S128x128_d0_w32) (iota .tc S128x128 32 [1] iota_S128x128_d1_w32) v79 v82 v85 v86)
    (cell (fun i j => triB P i j 0) 0 0) :=
  masked (v := divf v79 (k0_pay41 v82 v85 v86)) fun i j => congrArg₂ Ideal.div (h79 i j) (pay41_reads P h82 h85 h86 i j)
/-- The second triangle's masked unit normal, component 1. -/
theorem pay46_reads : Reads (k0_pay46 (iota .tc S128x128 32 [0] iota_S128x128_d0_w32) (iota .tc S128x128 32 [1] iota_S128x128_d1_w32) v82 v85 v86)
    (cell (fun i j => triB P i j 1) 0 0) :=
  masked (v := divf v82 (k0_pay41 v82 v85 v86)) fun i j => congrArg₂ Ideal.div (h82 i j) (pay41_reads P h82 h85 h86 i j)
/-- The second triangle's masked unit normal, component 2. -/
theorem pay47_reads : Reads (k0_pay47 (iota .tc S128x128 32 [0] iota_S128x128_d0_w32) (iota .tc S128x128 32 [1] iota_S128x128_d1_w32) v82 v85 v86)
    (cell (fun i j => triB P i j 2) 0 0) :=
  masked (v := divf v85 (k0_pay41 v82 v85 v86)) fun i j => congrArg₂ Ideal.div (h85 i j) (pay41_reads P h82 h85 h86 i j)
end

/-- The six normals that meet at each vertex, one component. -/
def six (a b : ℕ → ℕ → EReal) (i j : ℕ) : EReal :=
  cell a 0 0 i j + cell a 1 0 i j + cell a 0 1 i j + cell b 0 1 i j + cell b 1 0 i j + cell b 1 1 i j

/-- The vertex normal, component 0, from the masked unit normals. -/
theorem pay51_reads {a b : ℕ → ℕ → EReal} {v74 v79 v82 v85 v86 : FVec Ideal S128x128 .f32} (ha : Reads v74 a)
    (hb : Reads (k0_pay45 (iota .tc S128x128 32 [0] iota_S128x128_d0_w32) (iota .tc S128x128 32 [1] iota_S128x128_d1_w32) v79 v82 v85 v86) (cell b 0 0)) :
    Reads (k0_pay51 (k0_pay45 (iota .tc S128x128 32 [0] iota_S128x128_d0_w32) (iota .tc S128x128 32 [1] iota_S128x128_d1_w32) v79 v82 v85 v86)
      (k0_pay49 (iota .tc S128x128 32 [0] iota_S128x128_d0_w32) (iota .tc S128x128 32 [1] iota_S128x128_d1_w32) v79 v82 v85 v86)
      (k0_pay50 (iota .tc S128x128 32 [0] iota_S128x128_d0_w32) (iota .tc S128x128 32 [1] iota_S128x128_d1_w32) v74)
      (Scalar.ofBits .f32 0x00000000#32)) (six a b) :=
  (((((masked ha).add (maskedDown (masked ha))).add (maskedRight (masked ha))).add (maskedRight hb)).add (maskedDown hb)).add
    (maskedRight (maskedDown hb))

/-- The vertex normal, component 1, from the masked unit normals. -/
theorem pay52_reads {a b : ℕ → ℕ → EReal} {v105 v108 : FVec Ideal S128x128 .f32} (ha : Reads v105 (cell a 0 0)) (hb : Reads v108 (cell b 0 0)) :
    Reads (k0_pay52 v105 v108) (six a b) :=
  ((((ha.add (maskedDown ha)).add (maskedRight ha)).add (maskedRight hb)).add (maskedDown hb)).add (maskedRight (maskedDown hb))

/-- The vertex normal, component 2, from the masked unit normals. -/
theorem pay53_reads {a b : ℕ → ℕ → EReal} {v106 v109 : FVec Ideal S128x128 .f32} (ha : Reads v106 (cell a 0 0)) (hb : Reads v109 (cell b 0 0)) :
    Reads (k0_pay53 v106 v109) (six a b) :=
  ((((ha.add (maskedDown ha)).add (maskedRight ha)).add (maskedRight hb)).add (maskedDown hb)).add (maskedRight (maskedDown hb))

/-! ## The whole body at one block -/

section
variable (x0 : Vec Ideal S1x3x256x256 .f32) (x1 : Vec Ideal S1x1x128x128 .f32) (x2 : Vec Ideal S128x256 .f32) (x3 : Vec Ideal S256x128 .f32)

/-- The vertices of a block, continued by zero. -/
def verts (c : Fin 3) : ℕ → ℕ → EReal := ext (prod x2 x3 (fun h w => x0 (ix4 0 c h w)))

/-- The vertices past the last column are zero. -/
theorem verts_col (c : Fin 3) (i : ℕ) : verts x0 x2 x3 c i 128 = 0 := dif_neg fun h => absurd h.2 (by omega)
/-- The vertices past the last row are zero. -/
theorem verts_row (c : Fin 3) (j : ℕ) : verts x0 x2 x3 c 128 j = 0 := by
  unfold verts ext
  rw [dif_neg (by omega)]
/-- The vertices at row and column numbers. -/
theorem verts_apply (c : Fin 3) (i j : Fin 128) : verts x0 x2 x3 c i.val j.val = prod x2 x3 (fun h w => x0 (ix4 0 c h w)) i j :=
  dif_pos ⟨i.isLt, j.isLt⟩

/-- Channel 0 of the vertices. -/
theorem p56 : Reads (k0_pay56 x0 x1 x2 x3) (verts x0 x2 x3 0) := by
  intro i j
  rw [verts_apply]
  pointwise [k0_pay56, k0_pay7, k0_pay5, k0_pay6, prod]
/-- Channel 1 of the vertices. -/
theorem p57 : Reads (k0_pay57 x0 x1 x2 x3) (verts x0 x2 x3 1) := by
  intro i j
  rw [verts_apply]
  pointwise [k0_pay57, k0_pay8, k0_pay5, k0_pay6, prod]
/-- Channel 2 of the vertices. -/
theorem p58 : Reads (k0_pay58 x0 x1 x2 x3) (verts x0 x2 x3 2) := by
  intro i j
  rw [verts_apply]
  pointwise [k0_pay58, k0_pay9, k0_pay5, k0_pay6, prod]
/-- Channel 0 of the vertices one row below. -/
theorem p59 : Reads (k0_pay59 x0 x1 x2 x3) (fun i j => verts x0 x2 x3 0 (i + 1) j) := shiftUp (p56 x0 x1 x2 x3) (verts_row x0 x2 x3 0)
/-- Channel 1 of the vertices one row below. -/
theorem p60 : Reads (k0_pay60 x0 x1 x2 x3) (fun i j => verts x0 x2 x3 1 (i + 1) j) := shiftUp (p57 x0 x1 x2 x3) (verts_row x0 x2 x3 1)
/-- Channel 2 of the vertices one row below. -/
theorem p61 : Reads (k0_pay61 x0 x1 x2 x3) (fun i j => verts x0 x2 x3 2 (i + 1) j) := shiftUp (p58 x0 x1 x2 x3) (verts_row x0 x2 x3 2)
/-- Channel 0 of the vertices one column to the right. -/
theorem p62 : Reads (k0_pay62 x0 x1 x2 x3) (fun i j => verts x0 x2 x3 0 i (j + 1)) := shiftLeft (p56 x0 x1 x2 x3) (verts_col x0 x2 x3 0)
/-- Channel 1 of the vertices one column to the right. -/
theorem p63 : Reads (k0_pay16 (k0_pay63 x0 x1 x2 x3) (k0_pay64 x0 x1 x2 x3)) (fun i j => verts x0 x2 x3 1 i (j + 1)) :=
  shiftLeft (p57 x0 x1 x2 x3) (verts_col x0 x2 x3 1)
/-- Channel 2 of the vertices one column to the right. -/
theorem p58r : Reads (k0_pay17 (k0_pay58 x0 x1 x2 x3)) (fun i j => verts x0 x2 x3 2 i (j + 1)) :=
  shiftLeft (p58 x0 x1 x2 x3) (verts_col x0 x2 x3 2)

/-- The second triangles' normals, component 0. -/
theorem p65 : Reads (k0_pay65 x0 x1 x2 x3) (fun i j => crossB (verts x0 x2 x3) i j 0) :=
  pay37_reads _ (verts_col x0 x2 x3) (p60 x0 x1 x2 x3) (p61 x0 x1 x2 x3) (p63 x0 x1 x2 x3) (p58r x0 x1 x2 x3)
/-- The second triangles' normals, component 1. -/
theorem p66 : Reads (k0_pay66 x0 x1 x2 x3) (fun i j => crossB (verts x0 x2 x3) i j 1) :=
  pay38_reads _ (verts_col x0 x2 x3) (p59 x0 x1 x2 x3) (p61 x0 x1 x2 x3) (p62 x0 x1 x2 x3) (p58r x0 x1 x2 x3)
/-- The second triangles' normals, component 2. -/
theorem p67 : Reads (k0_pay67 x0 x1 x2 x3) (fun i j => crossB (verts x0 x2 x3) i j 2) :=
  pay39_reads _ (verts_col x0 x2 x3) (p59 x0 x1 x2 x3) (p60 x0 x1 x2 x3) (p62 x0 x1 x2 x3) (p63 x0 x1 x2 x3)
/-- The square of component 0 of the second triangles' normals. -/
theorem p68 : Reads (k0_pay68 x0 x1 x2 x3) (fun i j => crossB (verts x0 x2 x3) i j 0 * crossB (verts x0 x2 x3) i j 0) := fun i j =>
  congrArg₂ (· * ·) (p65 x0 x1 x2 x3 i j) (p65 x0 x1 x2 x3 i j)

/-- The vertex normals, component 0. -/
theorem p70 : Reads (k0_pay70 x0 x1 x2 x3) (fun i j => vnorm (verts x0 x2 x3) i j 0) :=
  pay51_reads (pay34_reads _ (p56 x0 x1 x2 x3) (p57 x0 x1 x2 x3) (p58 x0 x1 x2 x3) (p59 x0 x1 x2 x3) (p60 x0 x1 x2 x3) (p61 x0 x1 x2 x3)
      (p62 x0 x1 x2 x3) (p63 x0 x1 x2 x3) (p58r x0 x1 x2 x3))
    (pay45_reads _ (p65 x0 x1 x2 x3) (p66 x0 x1 x2 x3) (p67 x0 x1 x2 x3) (p68 x0 x1 x2 x3))
/-- The vertex normals, component 1. -/
theorem p71 : Reads (k0_pay71 x0 x1 x2 x3) (fun i j => vnorm (verts x0 x2 x3) i j 1) :=
  pay52_reads (masked (pay35_reads _ (p56 x0 x1 x2 x3) (p57 x0 x1 x2 x3) (p58 x0 x1 x2 x3) (p59 x0 x1 x2 x3) (p60 x0 x1 x2 x3) (p61 x0 x1 x2 x3)
      (p62 x0 x1 x2 x3) (p63 x0 x1 x2 x3) (p58r x0 x1 x2 x3)))
    (pay46_reads _ (p66 x0 x1 x2 x3) (p67 x0 x1 x2 x3) (p68 x0 x1 x2 x3))
/-- The vertex normals, component 2. -/
theorem p72 : Reads (k0_pay72 x0 x1 x2 x3) (fun i j => vnorm (verts x0 x2 x3) i j 2) :=
  pay53_reads (masked (pay36_reads _ (p56 x0 x1 x2 x3) (p57 x0 x1 x2 x3) (p58 x0 x1 x2 x3) (p59 x0 x1 x2 x3) (p60 x0 x1 x2 x3) (p61 x0 x1 x2 x3)
      (p62 x0 x1 x2 x3) (p63 x0 x1 x2 x3) (p58r x0 x1 x2 x3)))
    (pay47_reads _ (p66 x0 x1 x2 x3) (p67 x0 x1 x2 x3) (p68 x0 x1 x2 x3))

/-- The displacements. -/
theorem p69 (i j : Fin 128) : k0_pay69 x0 x1 x2 x3 (ix2 i j) = Ideal.div 1 (1 + Ideal.exp (-(x1 (ix4 0 0 i j)))) * ratio := by
  unfold k0_pay69
  rw [pay48_apply]
  pointwise

/-- The body's result at vertex `(i, j)`, channel `c`. -/
def result (c : Fin 3) (i j : Fin 128) : EReal := displaced (verts x0 x2 x3) (x1 (ix4 0 0 i j)) i.val j.val c

/-- The length of the vertex normals plus `eps`. -/
theorem p1 (i j : Fin 128) : k0_pay1 (k0_pay70 x0 x1 x2 x3) (k0_pay71 x0 x1 x2 x3) (k0_pay72 x0 x1 x2 x3) (ix2 i j)
    = len (vnorm (verts x0 x2 x3) i.val j.val) := by
  pointwise [k0_pay1]
  rw [p70 x0 x1 x2 x3 i j, p71 x0 x1 x2 x3 i j, p72 x0 x1 x2 x3 i j]
  try rw [zero_add]
  rfl

/-- What the body stores in channel 0. -/
theorem p2 (i j : Fin 128) : k0_pay2 (k0_pay56 x0 x1 x2 x3) (k0_pay69 x0 x1 x2 x3) (k0_pay70 x0 x1 x2 x3) (k0_pay71 x0 x1 x2 x3) (k0_pay72 x0 x1 x2 x3) (ix4 0 0 i j)
    = result x0 x1 x2 x3 0 i j := by
  pointwise [k0_pay2]
  rw [p1 x0 x1 x2 x3 i j, p69 x0 x1 x2 x3 i j, p70 x0 x1 x2 x3 i j, p56 x0 x1 x2 x3 i j]
  rfl

/-- What the body stores in channel 1. -/
theorem p3 (i j : Fin 128) : k0_pay3 (k0_pay57 x0 x1 x2 x3) (k0_pay69 x0 x1 x2 x3) (k0_pay70 x0 x1 x2 x3) (k0_pay71 x0 x1 x2 x3) (k0_pay72 x0 x1 x2 x3) (ix4 0 0 i j)
    = result x0 x1 x2 x3 1 i j := by
  pointwise [k0_pay3]
  rw [p1 x0 x1 x2 x3 i j, p69 x0 x1 x2 x3 i j, p71 x0 x1 x2 x3 i j, p57 x0 x1 x2 x3 i j]
  rfl

/-- What the body stores in channel 2. -/
theorem p4 (i j : Fin 128) : k0_pay4 (k0_pay58 x0 x1 x2 x3) (k0_pay69 x0 x1 x2 x3) (k0_pay70 x0 x1 x2 x3) (k0_pay71 x0 x1 x2 x3) (k0_pay72 x0 x1 x2 x3) (ix4 0 0 i j)
    = result x0 x1 x2 x3 2 i j := by
  pointwise [k0_pay4]
  rw [p1 x0 x1 x2 x3 i j, p69 x0 x1 x2 x3 i j, p72 x0 x1 x2 x3 i j, p58 x0 x1 x2 x3 i j]
  rfl

/-- The body's whole result. -/
def blockOut : Vec Ideal S1x3x128x128 .f32 := fun y => result x0 x1 x2 x3 (y 1) (y 2) (y 3)

/-- `blockOut` at an index given by its coordinates' values. -/
theorem blockOut_of_val (y : S1x3x128x128.Idx) (c : Fin 3) (i j : Fin 128) (h1 : (y 1).val = c.val) (h2 : (y 2).val = i.val) (h3 : (y 3).val = j.val) :
    blockOut x0 x1 x2 x3 y = result x0 x1 x2 x3 c i j := by
  have e1 : y 1 = c := Fin.ext h1
  have e2 : y 2 = i := Fin.ext h2
  have e3 : y 3 = j := Fin.ext h3
  unfold blockOut
  rw [e1, e2, e3]

/-- A piece stored at channel `c` that holds the results of that channel is that piece of `blockOut`. -/
theorem piece_eq (c : Fin 3) (w : Vec Ideal S1x1x128x128 .f32) (hw : ∀ i j, w (ix4 0 0 i j) = result x0 x1 x2 x3 c i j)
    (inb : ∀ a, (![0, c.val, 0, 0] : Fin 4 → ℕ) a + S1x1x128x128.size a ≤ S1x3x128x128.size a) (x : S1x1x128x128.Idx) :
    w x = blockOut x0 x1 x2 x3 ((Rect.unit (s := S1x3x128x128) ![0, c.val, 0, 0] S1x1x128x128.size inb).emb x) := by
  idx_vars x
  obtain rfl : x0 = 0 := Subsingleton.elim _ _
  obtain rfl : x1 = 0 := Subsingleton.elim _ _
  refine (hw x2 x3).trans (blockOut_of_val _ _ _ _ _ c x2 x3 ?_ ?_ ?_).symm
  · rfl
  · show 0 + 1 * x2.val = x2.val
    omega
  · show 0 + 1 * x3.val = x3.val
    omega

/-- The body stores `blockOut`. -/
theorem out_eq : out0_4 x0 x1 x2 x3 = blockOut x0 x1 x2 x3 := by
  funext y
  refine View.canon_apply_of_pieces (blockOut x0 x1 x2 x3) _ ?_ y (cover0_4 _ _ _ y)
  intro p hp
  rcases List.mem_cons.1 hp with rfl | hp
  · exact piece_eq x0 x1 x2 x3 2 _ (p4 x0 x1 x2 x3) inb_S1x3x128x128_S1x1x128x128_0_2_0_0
  rcases List.mem_cons.1 hp with rfl | hp
  · exact piece_eq x0 x1 x2 x3 1 _ (p3 x0 x1 x2 x3) inb_S1x3x128x128_S1x1x128x128_0_1_0_0
  rcases List.mem_cons.1 hp with rfl | hp
  · exact piece_eq x0 x1 x2 x3 0 _ (p2 x0 x1 x2 x3) inb_S1x3x128x128_S1x1x128x128_0_0_0_0
  · simp at hp
end

end Cert.KernelIdeal.KVal

end
-- ==== Proof.Kernel.lean ====
/-
  THE KERNEL'S RESULT: the array it writes holds the displaced vertices of all six faces.
-/
module

public import proofs.«01_k».proof.Proof.Block

@[expose] public section

set_option maxRecDepth 16384

noncomputable section

namespace Cert.KernelIdeal.KVal

open Cert.KernelIdeal Cert.KernelIdeal.Gen Idealize.ShloMosaic Idealize.ShloMosaic.TcCoe
open Cert.Mesh

/-- The product of the two matrices with an image, where they are the table and its transpose, is the bilinear sample. -/
theorem prod_eq (v2 : Vec Ideal S128x256 .f32) (v4 : Vec Ideal S256x128 .f32) (h2 : ∀ k h, v2 (ix2 k h) = tab k h) (h4 : ∀ h k, v4 (ix2 h k) = tab k h)
    (x : Fin 256 → Fin 256 → EReal) (i j : Fin 128) : prod v2 v4 x i j = sample x i j := by
  unfold prod
  have e : ∀ h, v2 (ix2 i h) * ∑ w : Fin 256, x h w * v4 (ix2 w j)
      = (x h (lo j) * ((1 - wt j : ℝ) : EReal) + x h (hi j) * ((wt j : ℝ) : EReal)) * tab i h := by
    intro h
    rw [h2, mul_comm, Finset.sum_congr rfl fun w _ => congrArg (x h w * ·) (h4 w j), sum_tab]
  rw [Finset.sum_congr rfl fun h _ => e h, sum_tab]
  rfl

variable (m : (ℓ : Loc nD τ sig) → Buf (Elt Ideal) ℓ)

/-- Point `t`'s face. -/
def faceOf (t : Fin cfg0.N) : Fin 6 := ⟨t.val, lt_of_lt_of_eq t.isLt (by decide +kernel)⟩

/-- Where each window's block lies: the images', the parameters' and the result's at the point's face, the matrices' the whole. -/
theorem idx0 : ∀ t : Fin cfg0.N, win0_0.index t = ![t.val, 0, 0, 0] := (by decide +kernel : ∀ t : Fin grid0.N, win0_0.index t = ![t.val, 0, 0, 0])
/-- The parameters' block lies at the point's face. -/
theorem idx1 : ∀ t : Fin cfg0.N, win0_1.index t = ![t.val, 0, 0, 0] := (by decide +kernel : ∀ t : Fin grid0.N, win0_1.index t = ![t.val, 0, 0, 0])
/-- The first matrix's block is the whole matrix. -/
theorem idx2 : ∀ t : Fin cfg0.N, win0_2.index t = ![0, 0] := (by decide +kernel : ∀ t : Fin grid0.N, win0_2.index t = ![0, 0])
/-- The second matrix's block is the whole matrix. -/
theorem idx3 : ∀ t : Fin cfg0.N, win0_3.index t = ![0, 0] := (by decide +kernel : ∀ t : Fin grid0.N, win0_3.index t = ![0, 0])
/-- The result's block lies at the point's face. -/
theorem idx4 : ∀ t : Fin cfg0.N, win0_4.index t = ![t.val, 0, 0, 0] := (by decide +kernel : ∀ t : Fin grid0.N, win0_4.index t = ![t.val, 0, 0, 0])

/-- An index of the images' block, in the array. -/
theorem emb0 (t : Fin cfg0.N) (b : Fin 3) (h w : Fin 256) :
    ((cfg0.win 0).blk t).view.emb (ix4 (0 : Fin 1) b h w : S1x3x256x256.Idx) = (ix4 (faceOf t) b h w : S6x3x256x256.Idx) := by
  have e := idx0 t
  funext a; apply Fin.ext
  match a with
  | ⟨0, _⟩ => show win0_0.index t (0 : Fin 4) * 1 + 1 * 0 = t.val; rw [e]; show t.val * 1 + 1 * 0 = t.val; omega
  | ⟨1, _⟩ => show win0_0.index t (1 : Fin 4) * 3 + 1 * b.val = b.val; rw [e]; show 0 * 3 + 1 * b.val = b.val; omega
  | ⟨2, _⟩ => show win0_0.index t (2 : Fin 4) * 256 + 1 * h.val = h.val; rw [e]; show 0 * 256 + 1 * h.val = h.val; omega
  | ⟨3, _⟩ => show win0_0.index t (3 : Fin 4) * 256 + 1 * w.val = w.val; rw [e]; show 0 * 256 + 1 * w.val = w.val; omega

/-- An index of the parameters' block, in the array. -/
theorem emb1 (t : Fin cfg0.N) (i j : Fin 128) :
    ((cfg0.win 1).blk t).view.emb (ix4 (0 : Fin 1) (0 : Fin 1) i j : S1x1x128x128.Idx) = (ix4 (faceOf t) 0 i j : S6x1x128x128.Idx) := by
  have e := idx1 t
  funext a; apply Fin.ext
  match a with
  | ⟨0, _⟩ => show win0_1.index t (0 : Fin 4) * 1 + 1 * 0 = t.val; rw [e]; show t.val * 1 + 1 * 0 = t.val; omega
  | ⟨1, _⟩ => show win0_1.index t (1 : Fin 4) * 1 + 1 * 0 = 0; rw [e]; rfl
  | ⟨2, _⟩ => show win0_1.index t (2 : Fin 4) * 128 + 1 * i.val = i.val; rw [e]; show 0 * 128 + 1 * i.val = i.val; omega
  | ⟨3, _⟩ => show win0_1.index t (3 : Fin 4) * 128 + 1 * j.val = j.val; rw [e]; show 0 * 128 + 1 * j.val = j.val; omega

/-- An index of the first matrix's block. -/
theorem emb2 (t : Fin cfg0.N) (y : S128x256.Idx) : ((cfg0.win 2).blk t).view.emb y = y := by
  have e := idx2 t
  funext a; apply Fin.ext
  match a with
  | ⟨0, _⟩ => show win0_2.index t (0 : Fin 2) * 128 + 1 * (y 0).val = (y 0).val; rw [e]; show 0 * 128 + 1 * (y 0).val = (y 0).val; omega
  | ⟨1, _⟩ => show win0_2.index t (1 : Fin 2) * 256 + 1 * (y 1).val = (y 1).val; rw [e]; show 0 * 256 + 1 * (y 1).val = (y 1).val; omega

/-- An index of the second matrix's block. -/
theorem emb3 (t : Fin cfg0.N) (y : S256x128.Idx) : ((cfg0.win 3).blk t).view.emb y = y := by
  have e := idx3 t
  funext a; apply Fin.ext
  match a with
  | ⟨0, _⟩ => show win0_3.index t (0 : Fin 2) * 256 + 1 * (y 0).val = (y 0).val; rw [e]; show 0 * 256 + 1 * (y 0).val = (y 0).val; omega
  | ⟨1, _⟩ => show win0_3.index t (1 : Fin 2) * 128 + 1 * (y 1).val = (y 1).val; rw [e]; show 0 * 128 + 1 * (y 1).val = (y 1).val; omega

/-- An index of the result's block, in the array. -/
theorem emb4 (t : Fin cfg0.N) (b : Fin 3) (i j : Fin 128) :
    ((cfg0.win 4).blk t).view.emb (ix4 (0 : Fin 1) b i j : S1x3x128x128.Idx) = (ix4 (faceOf t) b i j : S6x3x128x128.Idx) := by
  have e := idx4 t
  funext a; apply Fin.ext
  match a with
  | ⟨0, _⟩ => show win0_4.index t (0 : Fin 4) * 1 + 1 * 0 = t.val; rw [e]; show t.val * 1 + 1 * 0 = t.val; omega
  | ⟨1, _⟩ => show win0_4.index t (1 : Fin 4) * 3 + 1 * b.val = b.val; rw [e]; show 0 * 3 + 1 * b.val = b.val; omega
  | ⟨2, _⟩ => show win0_4.index t (2 : Fin 4) * 128 + 1 * i.val = i.val; rw [e]; show 0 * 128 + 1 * i.val = i.val; omega
  | ⟨3, _⟩ => show win0_4.index t (3 : Fin 4) * 128 + 1 * j.val = j.val; rw [e]; show 0 * 128 + 1 * j.val = j.val; omega

/-- The images' block at a point is the point's face. -/
theorem iblk0_apply (c : Dev nD) (t : Fin cfg0.N) (b : Fin 3) (h w : Fin 256) :
    (iblk m c 0 t : Vec Ideal S1x3x256x256 .f32) (ix4 0 b h w) = m ((c : Thread nD τ).loc main_arg0) (ix4 (faceOf t) b h w : S6x3x256x256.Idx) := by
  show V m c main_arg0 (((cfg0.win 0).blk t).view.emb (ix4 (0 : Fin 1) b h w : S1x3x256x256.Idx)) = _
  rw [emb0, V_main_arg0]

/-- The parameters' block at a point is the point's face. -/
theorem iblk1_apply (c : Dev nD) (t : Fin cfg0.N) (i j : Fin 128) :
    (iblk m c 1 t : Vec Ideal S1x1x128x128 .f32) (ix4 0 0 i j) = m ((c : Thread nD τ).loc main_arg1) (ix4 (faceOf t) 0 i j : S6x1x128x128.Idx) := by
  show V m c main_arg1 (((cfg0.win 1).blk t).view.emb (ix4 (0 : Fin 1) (0 : Fin 1) i j : S1x1x128x128.Idx)) = _
  rw [emb1, V_main_arg1]

/-- The first matrix is the table. -/
theorem iblk2_apply (c : Dev nD) (t : Fin cfg0.N) (k : Fin 128) (h : Fin 256) : (iblk m c 2 t : Vec Ideal S128x256 .f32) (ix2 k h) = tab k h := by
  show V m c main_v24 (((cfg0.win 2).blk t).view.emb (ix2 k h : S128x256.Idx)) = _
  rw [emb2, V_v24, tabV_apply]

/-- The second matrix is the table transposed. -/
theorem iblk3_apply (c : Dev nD) (t : Fin cfg0.N) (k : Fin 128) (h : Fin 256) : (iblk m c 3 t : Vec Ideal S256x128 .f32) (ix2 h k) = tab k h := by
  show V m c main_v50 (((cfg0.win 3).blk t).view.emb (ix2 h k : S256x128.Idx)) = _
  rw [emb3, V_v50, ← tabV_apply]
  pointwise

/-- What the result array is shown to hold: the displaced vertices. -/
def kout (c : Dev nD) : Buf (Elt Ideal) ((c : Thread nD τ).loc main_v51) := fun (y : S6x3x128x128.Idx) =>
  mesh (m ((c : Thread nD τ).loc main_arg0)) (m ((c : Thread nD τ).loc main_arg1)) (y 0) (y 1) (y 2) (y 3)

/-- An element of what a point computes is that element of its face of the displaced vertices. -/
theorem block_at (c : Dev nD) (t : Fin cfg0.N) (b : Fin 3) (i j : Fin 128) :
    blockOut (iblk m c 0 t) (iblk m c 1 t) (iblk m c 2 t) (iblk m c 3 t) (ix4 0 b i j) = kout m c (ix4 (faceOf t) b i j : S6x3x128x128.Idx) := by
  show result _ _ _ _ b i j = mesh _ _ (faceOf t) b i j
  unfold result mesh
  rw [iblk1_apply]
  refine congrArg (fun P => displaced P _ _ _ _) ?_
  funext b
  unfold verts mverts
  refine congrArg ext ?_
  funext i j
  rw [prod_eq _ _ (iblk2_apply m c t) (fun h k => iblk3_apply m c t k h)]
  refine congrArg (fun x => sample x i j) ?_
  funext h w
  exact iblk0_apply m c t b h w

/-- The same at any index of the block. -/
theorem block_emb (c : Dev nD) (t : Fin cfg0.N) (y : S1x3x128x128.Idx) :
    blockOut (iblk m c 0 t) (iblk m c 1 t) (iblk m c 2 t) (iblk m c 3 t) y = kout m c (((cfg0.win 4).blk t).view.emb y) := by
  idx_vars y
  obtain rfl : y0 = 0 := Subsingleton.elim _ _
  exact (block_at m c t y1 y2 y3).trans (congrArg (kout m c) (emb4 t y1 y2 y3).symm)

/-- What a point writes back is its face of the displaced vertices. -/
theorem flushed_eq (c : Dev nD) (t : Fin cfg0.N) :
    (dats m 0 c).flushed 4 t = ((cfg0.win 4).blk t).view.read (Elt Ideal) (kout m c) := by
  rw [Value.flushed4, out_eq]
  funext y
  exact block_emb m c t y

/-- Every element of the result array is in its face's block. -/
theorem cover (y : S6x3x128x128.Idx) : ∃ t : Fin cfg0.N, (cfg0.win 4).flush t = true ∧ y ∈ ((cfg0.win 4).blk t).view.set := by
  idx_vars y
  let t : Fin cfg0.N := ⟨y0.val, lt_of_lt_of_eq y0.isLt (by decide +kernel)⟩
  refine ⟨t, flush0_4 _, ?_⟩
  have h := ((cfg0.win 4).blk t).view.emb_mem_set (ix4 (0 : Fin 1) y1 y2 y3 : S1x3x128x128.Idx)
  have e : ((cfg0.win 4).blk t).view.emb (ix4 (0 : Fin 1) y1 y2 y3 : S1x3x128x128.Idx) = (ix4 y0 y1 y2 y3 : S6x3x128x128.Idx) := emb4 t y1 y2 y3
  exact e ▸ h

/-- The result array after the run: the displaced vertices. -/
theorem final (c : Dev nD) : (dats m 0 c).arrAt 4 cfg0.N = kout m c :=
  (dats m 0 c).arrAt_eq_of_cover 4 (kout m c) (fun t _ => flushed_eq m c t) cover

end Cert.KernelIdeal.KVal

end
-- ==== Proof.RefGather.lean ====
/-
  THE REFERENCE'S GATHERS of image rows and columns, read at an index.
-/
module

public import proofs.«01_k».proof.Proof.Gen.ReferenceIdeal
public import Idealize.ShloMosaic.Lib.Pointwise
public import Idealize.ShloMosaic.Lib.Routing.Ops

@[expose] public section

set_option maxRecDepth 16384

noncomputable section

namespace Cert.ReferenceIdeal.RVal

open Cert.ReferenceIdeal Cert.ReferenceIdeal.Gen Idealize.ShloMosaic Idealize.ShloMosaic.TcCoe

/-- A gather along the images' rows reads, at row `i` of the result, the row whose number the table of indices holds at `i`. -/
theorem gather_rows (x : S6x3x256x256.Idx → EReal) (idx : IVec S128x1 32) (f : Fin 6) (c : Fin 3) (i : Fin 128) (w b : Fin 256)
    (hb : idx (ix2 i (0 : Fin 1)) = BitVec.ofNat 32 b.val) :
    Host.gather gather_S6x3x256x256_S128x1_S6x3x128x256_013_2_n_n_2_1_631256 x idx (ix4 f c i w) = x (ix4 f c b w) := by
  unfold Host.gather
  refine congrArg x (funext fun a => Fin.ext ?_)
  have hb256 := b.isLt
  generalize hd : gather_S6x3x256x256_S128x1_S6x3x128x256_013_2_n_n_2_1_631256 = d
  have hst : ∀ a, a ≠ 2 → d.start (ix4 f c i w) idx a = 0 := by
    intro a ha
    unfold GatherDims.start
    rw [dif_neg]
    subst hd
    revert a; decide +kernel
  have hbt : ∀ a, d.batchCoord (ix4 f c i w) a = 0 := by
    intro a
    refine d.batchCoord_eq_zero _ _ ?_
    subst hd
    revert a; decide +kernel
  have e0 : ∀ X : Fin 4, X = 0 → (ix4 f c i w X).val = f.val := fun X h => by subst h; rfl
  have e1 : ∀ X : Fin 4, X = 1 → (ix4 f c i w X).val = c.val := fun X h => by subst h; rfl
  have e2 : ∀ X : Fin 4, X = 2 → (ix4 f c i w X).val = i.val := fun X h => by subst h; rfl
  have e3 : ∀ X : Fin 4, X = 3 → (ix4 f c i w X).val = w.val := fun X h => by subst h; rfl
  have ho : ∀ (a : Fin 4) (h : a ∈ d.sKept), d.offsetDims[d.sKept.idxOf a]'(by rw [d.offset_length]; exact List.idxOf_lt_length_iff.2 h) = a := by
    subst hd
    decide +kernel
  show d.start (ix4 f c i w) idx a + d.batchCoord (ix4 f c i w) a + d.offCoord (ix4 f c i w) a = _
  rw [hbt]
  match a with
  | ⟨0, _⟩ =>
    have hm : (0 : Fin 4) ∈ d.sKept := by subst hd; decide +kernel
    have h2 : d.offCoord (ix4 f c i w) (0 : Fin 4) = f.val := by
      unfold GatherDims.offCoord; rw [dif_pos hm]; exact e0 _ (ho _ hm)
    have h1 := hst (0 : Fin 4) (by decide)
    show d.start (ix4 f c i w) idx (0 : Fin 4) + 0 + d.offCoord (ix4 f c i w) (0 : Fin 4) = f.val
    omega
  | ⟨1, _⟩ =>
    have hm : (1 : Fin 4) ∈ d.sKept := by subst hd; decide +kernel
    have h2 : d.offCoord (ix4 f c i w) (1 : Fin 4) = c.val := by
      unfold GatherDims.offCoord; rw [dif_pos hm]; exact e1 _ (ho _ hm)
    have h1 := hst (1 : Fin 4) (by decide)
    show d.start (ix4 f c i w) idx (1 : Fin 4) + 0 + d.offCoord (ix4 f c i w) (1 : Fin 4) = c.val
    omega
  | ⟨2, _⟩ =>
    have hk0 : ∀ k ∈ d.batchDims, k = (2 : Fin 4) := by subst hd; decide +kernel
    have hk : (2 : Fin 4) ∉ d.sKept := by subst hd; decide +kernel
    have hm : (2 : Fin 4) ∈ d.startIndexMap := by subst hd; decide +kernel
    have h2 : d.offCoord (ix4 f c i w) (2 : Fin 4) = 0 := d.offCoord_eq_zero _ _ hk
    have hsl : d.sliceSizes (2 : Fin 4) = 1 := by subst hd; rfl
    have hsi : d.siIdx (ix4 f c i w) ⟨d.startIndexMap.idxOf (2 : Fin 4), List.idxOf_lt_length_iff.2 hm⟩ = ix2 i (0 : Fin 1) := by
      funext b'
      apply Fin.ext
      match b' with
      | ⟨0, _⟩ =>
        unfold GatherDims.siIdx
        rw [dif_neg (by subst hd; exact (by decide : (0 : ℕ) ≠ 1))]
        unfold GatherDims.siCoord
        simp only [Fin.val_cast]
        exact e2 _ (hk0 _ (List.getElem_mem _))
      | ⟨1, _⟩ =>
        unfold GatherDims.siIdx
        rw [dif_pos (by subst hd; rfl)]
        show List.idxOf (2 : Fin 4) d.startIndexMap = 0
        subst hd
        decide +kernel
    have h1 : d.start (ix4 f c i w) idx (2 : Fin 4) = b.val := by
      unfold GatherDims.start
      rw [dif_pos hm, hsi, hb, hsl, StableHlo.Predicate.toInt_ofNat_small _ (by omega)]
      show min ((b.val : Int)).toNat 255 = b.val
      omega
    show d.start (ix4 f c i w) idx (2 : Fin 4) + 0 + d.offCoord (ix4 f c i w) (2 : Fin 4) = b.val
    omega
  | ⟨3, _⟩ =>
    have hm : (3 : Fin 4) ∈ d.sKept := by subst hd; decide +kernel
    have h2 : d.offCoord (ix4 f c i w) (3 : Fin 4) = w.val := by
      unfold GatherDims.offCoord; rw [dif_pos hm]; exact e3 _ (ho _ hm)
    have h1 := hst (3 : Fin 4) (by decide)
    show d.start (ix4 f c i w) idx (3 : Fin 4) + 0 + d.offCoord (ix4 f c i w) (3 : Fin 4) = w.val
    omega

/-- A gather along the images' columns reads, at column `j` of the result, the column whose number the table of indices holds at `j`. -/
theorem gather_cols (x : S6x3x128x256.Idx → EReal) (idx : IVec S128x1 32) (f : Fin 6) (c : Fin 3) (i j : Fin 128) (b : Fin 256)
    (hb : idx (ix2 j (0 : Fin 1)) = BitVec.ofNat 32 b.val) :
    Host.gather gather_S6x3x128x256_S128x1_S6x3x128x128_012_3_n_n_3_1_631281 x idx (ix4 f c i j) = x (ix4 f c i b) := by
  unfold Host.gather
  refine congrArg x (funext fun a => Fin.ext ?_)
  have hb256 := b.isLt
  generalize hd : gather_S6x3x128x256_S128x1_S6x3x128x128_012_3_n_n_3_1_631281 = d
  have hst : ∀ a, a ≠ 3 → d.start (ix4 f c i j) idx a = 0 := by
    intro a ha
    unfold GatherDims.start
    rw [dif_neg]
    subst hd
    revert a; decide +kernel
  have hbt : ∀ a, d.batchCoord (ix4 f c i j) a = 0 := by
    intro a
    refine d.batchCoord_eq_zero _ _ ?_
    subst hd
    revert a; decide +kernel
  have e0 : ∀ X : Fin 4, X = 0 → (ix4 f c i j X).val = f.val := fun X h => by subst h; rfl
  have e1 : ∀ X : Fin 4, X = 1 → (ix4 f c i j X).val = c.val := fun X h => by subst h; rfl
  have e2 : ∀ X : Fin 4, X = 2 → (ix4 f c i j X).val = i.val := fun X h => by subst h; rfl
  have e3 : ∀ X : Fin 4, X = 3 → (ix4 f c i j X).val = j.val := fun X h => by subst h; rfl
  have ho : ∀ (a : Fin 4) (h : a ∈ d.sKept), d.offsetDims[d.sKept.idxOf a]'(by rw [d.offset_length]; exact List.idxOf_lt_length_iff.2 h) = a := by
    subst hd
    decide +kernel
  show d.start (ix4 f c i j) idx a + d.batchCoord (ix4 f c i j) a + d.offCoord (ix4 f c i j) a = _
  rw [hbt]
  match a with
  | ⟨0, _⟩ =>
    have hm : (0 : Fin 4) ∈ d.sKept := by subst hd; decide +kernel
    have h2 : d.offCoord (ix4 f c i j) (0 : Fin 4) = f.val := by
      unfold GatherDims.offCoord; rw [dif_pos hm]; exact e0 _ (ho _ hm)
    have h1 := hst (0 : Fin 4) (by decide)
    show d.start (ix4 f c i j) idx (0 : Fin 4) + 0 + d.offCoord (ix4 f c i j) (0 : Fin 4) = f.val
    omega
  | ⟨1, _⟩ =>
    have hm : (1 : Fin 4) ∈ d.sKept := by subst hd; decide +kernel
    have h2 : d.offCoord (ix4 f c i j) (1 : Fin 4) = c.val := by
      unfold GatherDims.offCoord; rw [dif_pos hm]; exact e1 _ (ho _ hm)
    have h1 := hst (1 : Fin 4) (by decide)
    show d.start (ix4 f c i j) idx (1 : Fin 4) + 0 + d.offCoord (ix4 f c i j) (1 : Fin 4) = c.val
    omega
  | ⟨2, _⟩ =>
    have hm : (2 : Fin 4) ∈ d.sKept := by subst hd; decide +kernel
    have h2 : d.offCoord (ix4 f c i j) (2 : Fin 4) = i.val := by
      unfold GatherDims.offCoord; rw [dif_pos hm]; exact e2 _ (ho _ hm)
    have h1 := hst (2 : Fin 4) (by decide)
    show d.start (ix4 f c i j) idx (2 : Fin 4) + 0 + d.offCoord (ix4 f c i j) (2 : Fin 4) = i.val
    omega
  | ⟨3, _⟩ =>
    have hk0 : ∀ k ∈ d.batchDims, k = (3 : Fin 4) := by subst hd; decide +kernel
    have hk : (3 : Fin 4) ∉ d.sKept := by subst hd; decide +kernel
    have hm : (3 : Fin 4) ∈ d.startIndexMap := by subst hd; decide +kernel
    have h2 : d.offCoord (ix4 f c i j) (3 : Fin 4) = 0 := d.offCoord_eq_zero _ _ hk
    have hsl : d.sliceSizes (3 : Fin 4) = 1 := by subst hd; rfl
    have hsi : d.siIdx (ix4 f c i j) ⟨d.startIndexMap.idxOf (3 : Fin 4), List.idxOf_lt_length_iff.2 hm⟩ = ix2 j (0 : Fin 1) := by
      funext b'
      apply Fin.ext
      match b' with
      | ⟨0, _⟩ =>
        unfold GatherDims.siIdx
        rw [dif_neg (by subst hd; exact (by decide : (0 : ℕ) ≠ 1))]
        unfold GatherDims.siCoord
        simp only [Fin.val_cast]
        exact e3 _ (hk0 _ (List.getElem_mem _))
      | ⟨1, _⟩ =>
        unfold GatherDims.siIdx
        rw [dif_pos (by subst hd; rfl)]
        show List.idxOf (3 : Fin 4) d.startIndexMap = 0
        subst hd
        decide +kernel
    have h1 : d.start (ix4 f c i j) idx (3 : Fin 4) = b.val := by
      unfold GatherDims.start
      rw [dif_pos hm, hsi, hb, hsl, StableHlo.Predicate.toInt_ofNat_small _ (by omega)]
      show min ((b.val : Int)).toNat 255 = b.val
      omega
    show d.start (ix4 f c i j) idx (3 : Fin 4) + 0 + d.offCoord (ix4 f c i j) (3 : Fin 4) = b.val
    omega

end Cert.ReferenceIdeal.RVal

end
-- ==== Proof.RefSample.lean ====
/-
  THE REFERENCE'S SAMPLES: its table of vertices holds the bilinear sample of every face.
-/
module

public import proofs.«01_k».proof.Proof.Mesh
public import proofs.«01_k».proof.Proof.RefGather
public import proofs.«01_k».proof.Proof.Gen.ReferenceIdeal.Run
public import Idealize.ShloMosaic.Lib.Routing.OpsPair

@[expose] public section

set_option maxRecDepth 16384

noncomputable section

namespace Cert.ReferenceIdeal.RVal

open Cert.ReferenceIdeal Cert.ReferenceIdeal.Gen Cert.ReferenceIdeal.Value Idealize.ShloMosaic Idealize.ShloMosaic.TcCoe
open Cert.Mesh

variable (V0 : Valuation τ sig (Elt Ideal))

/-- The float constant 127. -/
theorem ofBits_127 : Ideal.ofBits .f32 0x42FE0000#32 = ((127 : ℝ) : EReal) := by
  simp [Ideal.ofBits, Ideal.ieee, -EReal.coe_mul]; norm_num

/-- The float constant 255. -/
theorem ofBits_255 : Ideal.ofBits .f32 0x437F0000#32 = ((255 : ℝ) : EReal) := by
  simp [Ideal.ofBits, Ideal.ieee, -EReal.coe_mul]; norm_num

/-- The float constant 0. -/
theorem ofBits_0 : Ideal.ofBits .f32 0x00000000#32 = ((0 : ℝ) : EReal) := by
  simp [Ideal.ofBits, Ideal.ieee]

/-- The words of the grid's lines, read as integers. -/
theorem toInt_line : ∀ k : Fin 128, (BitVec.ofNat 32 k.val).toInt = (k.val : ℤ) := by decide +kernel

/-- The words of the neighbours, read as integers, and the words beside them. -/
theorem lo_word : ∀ k : Fin 128,
    (BitVec.ofNat 32 (lo k).val).toInt = ((lo k).val : ℤ) ∧
    IntOp.minsi 255#32 (IntOp.maxsi 0#32 (BitVec.ofInt 32 ((lo k).val : ℤ))) = BitVec.ofNat 32 (lo k).val ∧
    IntOp.minsi 255#32 (IntOp.maxsi 0#32 (IntOp.addi (BitVec.ofNat 32 (lo k).val) 1#32)) = BitVec.ofNat 32 (hi k).val := by
  decide +kernel

/-- Where grid line `k` samples the image: a whole number and the weight. -/
theorem v0_apply (k : Fin 128) : res_main_v0 V0 (ix1 k) = (((lo k).val + wt k : ℝ) : EReal) := by
  pointwise [res_main_v0, res_main_call0_v0, res_main_call0_v1, res_main_call0_v6]
  show (if h : k.val < 127 then Ideal.ofBits .f32 0x00000000#32 * ((1 : EReal) - Ideal.div ((((BitVec.ofNat 32 k.val).toInt : ℝ)) : EReal) (Ideal.ofBits .f32 0x42FE0000#32))
      + Ideal.ofBits .f32 0x437F0000#32 * Ideal.div ((((BitVec.ofNat 32 k.val).toInt : ℝ)) : EReal) (Ideal.ofBits .f32 0x42FE0000#32)
      else Ideal.ofBits .f32 0x437F0000#32) = _
  rw [ofBits_127, ofBits_255, ofBits_0, Ideal.div_coe (by norm_num), toInt_line]
  unfold wt lo
  by_cases h : k.val < 127
  · simp only [h, if_true, dif_pos]
    rw [← EReal.coe_one, ← EReal.coe_mul, ← EReal.coe_sub, ← EReal.coe_mul, ← EReal.coe_mul, ← EReal.coe_add]
    refine congrArg _ ?_
    push_cast
    ring
  · simp only [h, if_false, dif_neg, not_false_eq_true]
    refine congrArg _ ?_
    push_cast
    ring

/-- The lower neighbour of grid line `k`, as a word. -/
theorem v4_apply (k : Fin 128) : res_main_v4 V0 (ix1 k) = BitVec.ofNat 32 (lo k).val := by
  pointwise [res_main_v4]
  rw [v0_apply, Ideal.liftRound_coe]
  have hw : (⌊((lo k).val : ℝ) + wt k⌋) = ((lo k).val : ℤ) := by
    have h0 := wt_nonneg k
    have h1 : wt k < 1 := by
      unfold wt; split
      · rename_i h
        rw [div_lt_one (by norm_num)]
        exact_mod_cast h
      · norm_num
    rw [Int.floor_eq_iff]
    constructor
    · push_cast; linarith
    · push_cast; linarith
  rw [hw]
  have hf : FloatOps.fptosi (F := Ideal) (φ := .f32) 32 ((((lo k).val : ℤ) : ℝ) : EReal) = BitVec.ofInt 32 ((lo k).val : ℤ) := by
    show BitVec.ofInt 32 (Ideal.toIntClamped _ _ _) = _
    rw [Ideal.toIntClamped_coe]
    have hl := (lo k).isLt
    have : (0 : ℝ) ≤ (((lo k).val : ℤ) : ℝ) := by positivity
    rw [if_pos this, Int.floor_intCast]
    refine congrArg _ ?_
    norm_num
    omega
  refine Eq.trans ?_ (lo_word k).2.1
  exact congrArg (fun z => IntOp.minsi 255#32 (IntOp.maxsi 0#32 z)) hf

/-- The upper neighbour of grid line `k`, as a word. -/
theorem v7_apply (k : Fin 128) : res_main_v7 V0 (ix1 k) = BitVec.ofNat 32 (hi k).val := by
  pointwise [res_main_v7]
  rw [v4_apply]
  exact (lo_word k).2.2

/-- The second axis samples as the first. -/
theorem v10_apply (k : Fin 128) : res_main_v10 V0 (ix1 k) = BitVec.ofNat 32 (lo k).val := v4_apply V0 k

/-- The second axis samples as the first. -/
theorem v13_apply (k : Fin 128) : res_main_v13 V0 (ix1 k) = BitVec.ofNat 32 (hi k).val := v7_apply V0 k

/-- The weight of grid line `k`. -/
theorem v16_apply (k : Fin 128) (z : Fin 1) : res_main_v16 V0 (ix2 k z) = (wt k : EReal) := by
  pointwise [res_main_v16]
  rw [v0_apply, v4_apply]
  show (((lo k).val + wt k : ℝ) : EReal) - ((((BitVec.ofNat 32 (lo k).val).toInt : ℝ)) : EReal) = _
  rw [(lo_word k).1, ← EReal.coe_sub]
  refine congrArg _ ?_
  push_cast
  ring

/-- The second axis weighs as the first. -/
theorem v19_apply (k : Fin 128) (z : Fin 1) : res_main_v19 V0 (ix2 z k) = (wt k : EReal) := by
  refine Eq.trans ?_ (v16_apply V0 k z)
  pointwise [res_main_v19, res_main_v16]
  rfl

/-- The reference's wrap of an index that lies in the image leaves it as it is. -/
theorem wrapped (v : IVec S128 32) (k : Fin 128) (z : Fin 1) (b : Fin 256) (hv : v (ix1 k) = BitVec.ofNat 32 b.val) :
    broadcastInDim S128x1 ![0] bcast_S128_S128x1_0 (select (cmpi .slt v (broadcastInDim S128 ![] bcast_S_S128 (constantI S_ 32 0#32)))
      (addi v (broadcastInDim S128 ![] bcast_S_S128 (constantI S_ 32 256#32))) v) (ix2 k z) = BitVec.ofNat 32 b.val := by
  pointwise []
  rw [Routing.wrap_of_lt _ _ (by rw [hv, BitVec.toNat_ofNat]; have := b.isLt; omega), hv]

/-- An image at a pair of neighbours. -/
theorem gathered (x : S6x3x256x256.Idx → EReal) (v u : IVec S128 32) (f : Fin 6) (c : Fin 3) (i j : Fin 128) (a b : Fin 256)
    (hv : v (ix1 i) = BitVec.ofNat 32 a.val) (hu : u (ix1 j) = BitVec.ofNat 32 b.val) :
    Host.gather gather_S6x3x128x256_S128x1_S6x3x128x128_012_3_n_n_3_1_631281 (Host.gather gather_S6x3x256x256_S128x1_S6x3x128x256_013_2_n_n_2_1_631256 x
      (broadcastInDim S128x1 ![0] bcast_S128_S128x1_0 (select (cmpi .slt v (broadcastInDim S128 ![] bcast_S_S128 (constantI S_ 32 0#32)))
      (addi v (broadcastInDim S128 ![] bcast_S_S128 (constantI S_ 32 256#32))) v)))
      (broadcastInDim S128x1 ![0] bcast_S128_S128x1_0 (select (cmpi .slt u (broadcastInDim S128 ![] bcast_S_S128 (constantI S_ 32 0#32)))
      (addi u (broadcastInDim S128 ![] bcast_S_S128 (constantI S_ 32 256#32))) u)) (ix4 f c i j) = x (ix4 f c a b) := by
  rw [gather_cols _ _ _ _ _ _ b (wrapped u j 0 b hu), gather_rows _ _ _ _ _ _ a (wrapped v i 0 a hv)]

/-- The reference's bilinear sample of every face. -/
theorem v102_apply (f : Fin 6) (c : Fin 3) (i j : Fin 128) :
    res_main_v102 V0 (ix4 f c i j) = sample (fun h w => V0 (Proc.devRef .tc main_arg0) (ix4 f c h w)) i j := by
  unfold res_main_v102
  generalize e1 : Host.gather gather_S6x3x128x256_S128x1_S6x3x128x128_012_3_n_n_3_1_631281 (Host.gather _ _ (broadcastInDim S128x1 ![0] bcast_S128_S128x1_0 (select (cmpi .slt (res_main_v4 V0) _) _ _))) (broadcastInDim S128x1 ![0] bcast_S128_S128x1_0 (select (cmpi .slt (res_main_v10 V0) _) _ _)) = g1
  generalize e2 : Host.gather gather_S6x3x128x256_S128x1_S6x3x128x128_012_3_n_n_3_1_631281 (Host.gather _ _ (broadcastInDim S128x1 ![0] bcast_S128_S128x1_0 (select (cmpi .slt (res_main_v4 V0) _) _ _))) (broadcastInDim S128x1 ![0] bcast_S128_S128x1_0 (select (cmpi .slt (res_main_v13 V0) _) _ _)) = g2
  generalize e3 : Host.gather gather_S6x3x128x256_S128x1_S6x3x128x128_012_3_n_n_3_1_631281 (Host.gather _ _ (broadcastInDim S128x1 ![0] bcast_S128_S128x1_0 (select (cmpi .slt (res_main_v7 V0) _) _ _))) (broadcastInDim S128x1 ![0] bcast_S128_S128x1_0 (select (cmpi .slt (res_main_v10 V0) _) _ _)) = g3
  generalize e4 : Host.gather gather_S6x3x128x256_S128x1_S6x3x128x128_012_3_n_n_3_1_631281 (Host.gather _ _ (broadcastInDim S128x1 ![0] bcast_S128_S128x1_0 (select (cmpi .slt (res_main_v7 V0) _) _ _))) (broadcastInDim S128x1 ![0] bcast_S128_S128x1_0 (select (cmpi .slt (res_main_v13 V0) _) _ _)) = g4
  pointwise []
  rw [v16_apply, v19_apply, ← e1, ← e2, ← e3, ← e4, gathered _ _ _ f c i j _ _ (v4_apply V0 i) (v10_apply V0 j),
    gathered _ _ _ f c i j _ _ (v4_apply V0 i) (v13_apply V0 j), gathered _ _ _ f c i j _ _ (v7_apply V0 i) (v10_apply V0 j),
    gathered _ _ _ f c i j _ _ (v7_apply V0 i) (v13_apply V0 j), ← EReal.coe_one, ← EReal.coe_sub, ← EReal.coe_sub]
  rfl

/-- The number of vertex `(i, j)` of face `f`. -/
def vix (f : Fin 6) (i j : Fin 128) : Fin 98304 := ⟨f.val * 16384 + i.val * 128 + j.val, by omega⟩

/-- The reference's table of vertices. -/
theorem v104_apply (f : Fin 6) (i j : Fin 128) (c : Fin 3) :
    res_main_v104 V0 (ix2 (vix f i j) c) = sample (fun h w => V0 (Proc.devRef .tc main_arg0) (ix4 f c h w)) i j := by
  rw [← v102_apply]
  pointwise [res_main_v104, vix]

end Cert.ReferenceIdeal.RVal

end
-- ==== Proof.RefNormal.lean ====
/-
  THE REFERENCE'S NORMALS: the unit normal of a triangle whose three vertex numbers are known.
-/
module

public import proofs.«01_k».proof.Proof.RefSample

@[expose] public section

set_option maxRecDepth 16384

noncomputable section

namespace Cert.ReferenceIdeal.RVal

open Cert.ReferenceIdeal Cert.ReferenceIdeal.Gen Cert.ReferenceIdeal.Value Idealize.ShloMosaic Idealize.ShloMosaic.TcCoe
open Cert.Mesh

variable (V0 : Valuation τ sig (Elt Ideal))

/-- A row of the vertex table at a known number. -/
theorem vertex_row (x : S98304x3.Idx → EReal) (v : IVec S193548 32) (n : Fin 193548) (c : Fin 3) (b : Fin 98304) (hv : v (ix1 n) = BitVec.ofNat 32 b.val) :
    Host.gather gather_S98304x3_S193548x1_S193548x3_1_0_n_n_0_1_13 x (broadcastInDim S193548x1 ![0] bcast_S193548_S193548x1_0 (select (cmpi .slt v (broadcastInDim S193548 ![] bcast_S_S193548 (constantI S_ 32 0#32))) (addi v (broadcastInDim S193548 ![] bcast_S_S193548 (constantI S_ 32 98304#32))) v)) (ix2 n c)
      = x (ix2 b c) := by
  refine Routing.gather_row gather_S98304x3_S193548x1_S193548x3_1_0_n_n_0_1_13 rfl rfl rfl rfl rfl x _ n c b ?_ (by norm_num)
  pointwise []
  rw [Routing.wrap_of_lt _ _ (by rw [hv, BitVec.toNat_ofNat]; have := b.isLt; omega), hv]

/-- The table of vertices, as a function. -/
def vtab (b : Fin 98304) (c : Fin 3) : EReal := res_main_v104 V0 (ix2 b c)

variable (n : Fin 193548) (v : Fin 3 → Fin 98304) (hv : ∀ k, V0 (Proc.devRef .tc main_arg2) (ix2 n k) = BitVec.ofNat 32 (v k).val)

include hv in
/-- A triangle's first edge. -/
theorem v138_apply (c : Fin 3) : res_main_v138 V0 (ix2 n c) = vtab V0 (v 1) c - vtab V0 (v 0) c := by
  have e0 : res_main_v112 V0 (ix1 n) = BitVec.ofNat 32 (v 0).val := by
    rw [← hv 0]; pointwise [res_main_v112]
  have e1 : res_main_v121 V0 (ix1 n) = BitVec.ofNat 32 (v 1).val := by
    rw [← hv 1]; pointwise [res_main_v121]
  unfold res_main_v138 res_main_v119
  exact congrArg₂ (fun a b : EReal => a - b) (vertex_row _ _ _ _ _ e1) (vertex_row _ _ _ _ _ e0)

include hv in
/-- A triangle's second edge. -/
theorem v139_apply (c : Fin 3) : res_main_v139 V0 (ix2 n c) = vtab V0 (v 2) c - vtab V0 (v 0) c := by
  have e0 : res_main_v112 V0 (ix1 n) = BitVec.ofNat 32 (v 0).val := by
    rw [← hv 0]; pointwise [res_main_v112]
  have e1 : res_main_v130 V0 (ix1 n) = BitVec.ofNat 32 (v 2).val := by
    rw [← hv 2]; pointwise [res_main_v130]
  unfold res_main_v139 res_main_v119
  exact congrArg₂ (fun a b : EReal => a - b) (vertex_row _ _ _ _ _ e1) (vertex_row _ _ _ _ _ e0)

/-- The cross product of a triangle's edges. -/
theorem v164_apply (c : Fin 3) : res_main_v164 V0 (ix2 n c) = cross (fun c => res_main_v138 V0 (ix2 n c)) (fun c => res_main_v139 V0 (ix2 n c)) c := by
  fin_cases c
  · pointwise [res_main_v164, res_main_v141, res_main_v143, res_main_v145, res_main_v147, res_main_v149, res_main_v151]
    rfl
  · pointwise [res_main_v164, res_main_v141, res_main_v143, res_main_v145, res_main_v147, res_main_v149, res_main_v151]
    rfl
  · pointwise [res_main_v164, res_main_v141, res_main_v143, res_main_v145, res_main_v147, res_main_v149, res_main_v151]
    rfl

/-- The unit normals of the triangles. -/
def normals : S193548x3.Idx → EReal :=
  Host.divf (res_main_v164 V0) (broadcastInDim S193548x3 ![0, 1] bcast_S193548x1_S193548x3_0_1 (addf (Host.sqrt (broadcastInDim S193548x1 ![0] bcast_S193548_S193548x1_0 (Host.reduceAdd (mulf (res_main_v164 V0) (res_main_v164 V0)) (constant S_ .f32 0x00000000#32) reducesTo_S193548x3_S193548_d1 h_S_))) (broadcastInDim S193548x1 ![] bcast_S_S193548x1 (constant S_ .f32 0x2B8CBCCC#32))))

/-- A triangle's unit normal. -/
theorem normals_apply (c : Fin 3) : normals V0 (ix2 n c) = unit (fun c => res_main_v164 V0 (ix2 n c)) c := by
  pointwise [normals]
  rw [Fin.sum_univ_three]
  rfl

include hv in
/-- The unit normal of a triangle with the vertices `v`. -/
theorem normal_of (c : Fin 3) : normals V0 (ix2 n c)
    = unit (cross (fun c => vtab V0 (v 1) c - vtab V0 (v 0) c) (fun c => vtab V0 (v 2) c - vtab V0 (v 0) c)) c := by
  rw [normals_apply]
  refine congrArg (fun w => unit w c) ?_
  funext c
  rw [v164_apply]
  exact congrArg₂ (fun a b => cross a b c) (funext fun c => v138_apply V0 n v hv c) (funext fun c => v139_apply V0 n v hv c)

/-- The images the reference samples. -/
def imgs : (⟨4, ![6, 3, 256, 256]⟩ : Shape).Idx → EReal := V0 (Proc.devRef .tc main_arg0)

/-- The table of vertices holds the samples of every face. -/
theorem vtab_vix (f : Fin 6) (i j : Fin 128) (c : Fin 3) : vtab V0 (vix f i j) c = mverts (imgs V0) f c i.val j.val := by
  unfold vtab mverts ext
  rw [v104_apply, dif_pos ⟨i.isLt, j.isLt⟩]
  rfl

end Cert.ReferenceIdeal.RVal

end
-- ==== Proof.RefFaces.lean ====
/-
  THE PRECONDITION: the words of the faces array are the vertex numbers of the cube's triangulation.
-/
module

public import proofs.«01_k».proof.Pre_cube_faces
public import proofs.«01_k».proof.Proof.RefNormal
public import Idealize.ShloMosaic.Lib.Pointwise

@[expose] public section

set_option maxRecDepth 16384

noncomputable section

namespace Cert.ReferenceIdeal.RVal

open Idealize.ShloMosaic Idealize.ShloMosaic.TcCoe

/-- The side conditions of the precondition's operations. -/
theorem preFacts : Cert.Pre_cube_faces.Facts := ⟨by decide +kernel, by decide +kernel⟩

/-- The row of triangle `t` of cell `(r, q)` of face `f`. -/
def tix (f : Fin 6) (t : Fin 2) (r q : Fin 127) : Fin 193548 := ⟨((f.val * 2 + t.val) * 127 + r.val) * 127 + q.val, by omega⟩

/-- The row below a cell's upper vertices. -/
def up (r : Fin 127) : Fin 128 := ⟨r.val, by omega⟩

/-- The row above a cell's lower vertices. -/
def dn (r : Fin 127) : Fin 128 := ⟨r.val + 1, by omega⟩

/-- The vertex numbers of triangle `t` of cell `(r, q)` of face `f`. -/
def corner (f : Fin 6) (t : Fin 2) (r q : Fin 127) : Fin 3 → Fin 98304 :=
  if t = 0 then ![vix f (up r) (up q), vix f (dn r) (up q), vix f (up r) (dn q)]
  else ![vix f (up r) (dn q), vix f (dn r) (up q), vix f (dn r) (dn q)]

/-- The printed word of a vertex number. -/
theorem vix_word (f : Fin 6) (r q : Fin 127) :
    IntOp.addi (IntOp.addi (IntOp.muli (BitVec.ofNat 32 f.val) 16384#32) (IntOp.muli (BitVec.ofNat 32 r.val) 128#32)) (BitVec.ofNat 32 q.val)
      = BitVec.ofNat 32 (f.val * 16384 + r.val * 128 + q.val) := by
  show BitVec.ofNat 32 f.val * BitVec.ofNat 32 16384 + BitVec.ofNat 32 r.val * BitVec.ofNat 32 128 + BitVec.ofNat 32 q.val = _
  rw [← BitVec.ofNat_mul, ← BitVec.ofNat_mul, ← BitVec.ofNat_add, ← BitVec.ofNat_add]

/-- The printed word of a neighbour's vertex number. -/
theorem vix_word_add (n d m : ℕ) (h : n + d = m) : IntOp.addi (BitVec.ofNat 32 n) (BitVec.ofNat 32 d) = BitVec.ofNat 32 m := by
  subst h
  show BitVec.ofNat 32 n + BitVec.ofNat 32 d = _
  rw [← BitVec.ofNat_add]

/-- A choice by a comparison of two words that are equal. -/
theorem select_same (x a b : BitVec 32) : Scalar.select (IntOp.cmpi .eq x x) a b = a := by
  simp [Scalar.select, IntOp.cmpi]

/-- A choice by a comparison of two words that are not equal. -/
theorem select_diff (x y a b : BitVec 32) (h : x ≠ y) : Scalar.select (IntOp.cmpi .eq x y) a b = b := by
  have e : (x == y) = false := beq_eq_false_iff_ne.2 h
  simp [Scalar.select, IntOp.cmpi, e]

/-- Two words whose comparison is true are equal. -/
theorem eq_of_cmpi (x y : BitVec 32) (h : IntOp.cmpi .eq x y = 1#1) : x = y := by
  by_contra hn
  have e : (x == y) = false := beq_eq_false_iff_ne.2 hn
  simp [IntOp.cmpi, e] at h

/-- Under the precondition, corner `k` of triangle `t` of cell `(r, q)` of face `f` is the vertex the triangulation names. -/
theorem faces_word [Cert.Pre_cube_faces.Facts] (a0 : FVec Ideal ⟨4, ![6, 3, 256, 256]⟩ .f32) (a1 : FVec Ideal ⟨4, ![6, 1, 128, 128]⟩ .f32) (a2 : IVec ⟨2, ![193548, 3]⟩ 32)
    (h : Cert.Pre_cube_faces.fn (F := Ideal) a0 a1 a2 = fun _ => 1#1) (f : Fin 6) (t : Fin 2) (r q : Fin 127) (k : Fin 3) :
    a2 (ix2 (tix f t r q) k) = BitVec.ofNat 32 (corner f t r q k).val := by
  have e : Cert.Pre_cube_faces.fn (F := Ideal) a0 a1 a2 (ix5 f t r q k) = IntOp.cmpi .eq (a2 (ix2 (tix f t r q) k)) (BitVec.ofNat 32 (corner f t r q k).val) := by
    pointwise [Cert.Pre_cube_faces.fn, Cert.Pre_cube_faces.fn_part1, Cert.Pre_cube_faces.fn_where]
    refine congrArg₂ (IntOp.cmpi .eq) (congrArg (fun n => a2 (ix2 n k)) (Fin.ext ?_)) ?_
    · show f.val * 32258 + t.val * 16129 + r.val * 127 + q.val = ((f.val * 2 + t.val) * 127 + r.val) * 127 + q.val
      omega
    · rw [vix_word, vix_word_add _ 1 _ rfl, vix_word_add _ 128 _ rfl, vix_word_add _ 129 _ rfl]
      fin_cases t
      · fin_cases k
        · exact (select_same _ _ _).trans (select_same _ _ _)
        · refine (select_same _ _ _).trans ((select_diff _ _ _ _ (by decide)).trans ((select_same _ _ _).trans (congrArg (BitVec.ofNat 32) ?_)))
          show f.val * 16384 + r.val * 128 + q.val + 128 = f.val * 16384 + (r.val + 1) * 128 + q.val
          omega
        · refine (select_same _ _ _).trans ((select_diff _ _ _ _ (by decide)).trans ((select_diff _ _ _ _ (by decide)).trans (congrArg (BitVec.ofNat 32) ?_)))
          show f.val * 16384 + r.val * 128 + q.val + 1 = f.val * 16384 + r.val * 128 + (q.val + 1)
          omega
      · fin_cases k
        · refine (select_diff _ _ _ _ (by decide)).trans ((select_same _ _ _).trans (congrArg (BitVec.ofNat 32) ?_))
          show f.val * 16384 + r.val * 128 + q.val + 1 = f.val * 16384 + r.val * 128 + (q.val + 1)
          omega
        · refine (select_diff _ _ _ _ (by decide)).trans ((select_diff _ _ _ _ (by decide)).trans ((select_same _ _ _).trans (congrArg (BitVec.ofNat 32) ?_)))
          show f.val * 16384 + r.val * 128 + q.val + 128 = f.val * 16384 + (r.val + 1) * 128 + q.val
          omega
        · refine (select_diff _ _ _ _ (by decide)).trans ((select_diff _ _ _ _ (by decide)).trans ((select_diff _ _ _ _ (by decide)).trans (congrArg (BitVec.ofNat 32) ?_)))
          show f.val * 16384 + r.val * 128 + q.val + 129 = f.val * 16384 + (r.val + 1) * 128 + (q.val + 1)
          omega
  rw [h] at e
  exact eq_of_cmpi _ _ e.symm

end Cert.ReferenceIdeal.RVal

end
-- ==== Proof.RefScatter.lean ====
/-
  THE REFERENCE'S SUM OVER THE TRIANGLES: what its scatter leaves at a vertex, as a sum over faces, triangles, cells and corners.
-/
module

public import proofs.«01_k».proof.Proof.RefFaces

@[expose] public section

set_option maxRecDepth 16384

noncomputable section

namespace Cert.ReferenceIdeal.RVal

open Cert.ReferenceIdeal Cert.ReferenceIdeal.Gen Cert.ReferenceIdeal.Value Idealize.ShloMosaic Idealize.ShloMosaic.TcCoe
open Cert.Mesh

/-- Where an update lands: its row's word is the row, and its column is the column. -/
theorem lands (idx : IVec S580644x1 32) (e : Fin 580644) (c' : Fin 3) (v : Fin 98304) (c : Fin 3) :
    scatter_S98304x3_S580644x1_S580644x3_1_0_0_1.resultIdx? (ix2 e c') idx = some (ix2 v c)
      ↔ (idx (ix2 e (0 : Fin 1))).toInt = (v.val : ℤ) ∧ c' = c := by
  generalize hd : scatter_S98304x3_S580644x1_S580644x3_1_0_0_1 = d
  have hm : (0 : Fin 2) ∈ d.scatterDimsToOperandDims := by subst hd; decide +kernel
  have hk0 : ∀ k ∈ d.uScatter, k = (0 : Fin 2) := by subst hd; decide +kernel
  have hk1 : ∀ k ∈ d.updateWindowDims, k = (1 : Fin 2) := by subst hd; decide +kernel
  have e0 : ∀ X : Fin 2, X = 0 → (ix2 e c' X).val = e.val := fun X h => by subst h; rfl
  have e1 : ∀ X : Fin 2, X = 1 → (ix2 e c' X).val = c'.val := fun X h => by subst h; rfl
  have hsi : d.siIdx (ix2 e c') ⟨d.scatterDimsToOperandDims.idxOf (0 : Fin 2), List.idxOf_lt_length_iff.2 hm⟩ = ix2 e (0 : Fin 1) := by
    funext b'
    apply Fin.ext
    match b' with
    | ⟨0, _⟩ =>
      unfold ScatterDims.siIdx
      rw [dif_neg (by subst hd; exact (by decide : (0 : ℕ) ≠ 1))]
      unfold ScatterDims.siCoord
      simp only [Fin.val_cast]
      exact e0 _ (hk0 _ (List.getElem_mem _))
    | ⟨1, _⟩ =>
      unfold ScatterDims.siIdx
      rw [dif_pos (by subst hd; rfl)]
      show List.idxOf (0 : Fin 2) d.scatterDimsToOperandDims = 0
      subst hd
      decide +kernel
  have hs0 : d.start (ix2 e c') idx (0 : Fin 2) = (idx (ix2 e (0 : Fin 1))).toInt := by
    unfold ScatterDims.start
    rw [dif_pos hm, hsi]
  have hs1 : d.start (ix2 e c') idx (1 : Fin 2) = 0 := by
    unfold ScatterDims.start
    rw [dif_neg (by subst hd; decide +kernel)]
  have hw0 : d.window (ix2 e c') (0 : Fin 2) = 0 := by
    unfold ScatterDims.window
    rw [dif_neg (by subst hd; decide +kernel)]
  have hw1 : d.window (ix2 e c') (1 : Fin 2) = c'.val := by
    unfold ScatterDims.window
    rw [dif_pos (by subst hd; decide +kernel)]
    exact e1 _ (hk1 _ (List.getElem_mem _))
  rw [Routing.resultIdx?_eq_some]
  constructor
  · intro h
    have h0 := h (0 : Fin 2)
    have h1 := h (1 : Fin 2)
    rw [hs0, hw0] at h0
    rw [hs1, hw1] at h1
    have q0 : (idx (ix2 e (0 : Fin 1))).toInt + ((0 : ℕ) : ℤ) = (v.val : ℤ) := h0
    have q1 : (0 : ℤ) + (c'.val : ℤ) = (c.val : ℤ) := h1
    exact ⟨by omega, Fin.ext (by omega)⟩
  · rintro ⟨h0, h1⟩ a
    subst h1
    match a with
    | ⟨0, _⟩ =>
      show d.start (ix2 e c') idx (0 : Fin 2) + ((d.window (ix2 e c') (0 : Fin 2) : ℕ) : ℤ) = (v.val : ℤ)
      rw [hs0, hw0]; omega
    | ⟨1, _⟩ =>
      show d.start (ix2 e c') idx (1 : Fin 2) + ((d.window (ix2 e c') (1 : Fin 2) : ℕ) : ℤ) = (c'.val : ℤ)
      rw [hs1, hw1]; omega

/-- The scatter at a vertex: the updates of the rows whose word is the vertex's number. -/
theorem scatter_at_row (x : FVec Ideal S98304x3 .f32) (idx : IVec S580644x1 32) (upd : FVec Ideal S580644x3 .f32) (v : Fin 98304) (c : Fin 3) :
    Host.scatterAdd (F := Ideal) scatter_S98304x3_S580644x1_S580644x3_1_0_0_1 x idx upd (ix2 v c)
      = (x (ix2 v c) : EReal) + ∑ e : Fin 580644, if (idx (ix2 e (0 : Fin 1))).toInt = (v.val : ℤ) then (upd (ix2 e c) : EReal) else 0 := by
  show (x (ix2 v c) : EReal) + ∑ j ∈ Finset.univ.filter (fun j => scatter_S98304x3_S580644x1_S580644x3_1_0_0_1.resultIdx? j idx = some (ix2 v c)), (upd j : EReal) = _
  refine congrArg (fun z : EReal => (x (ix2 v c) : EReal) + z) ?_
  rw [Finset.sum_filter]
  refine (sum_idx2 _).trans (Finset.sum_congr rfl fun e _ => ?_)
  simp only [lands]
  by_cases h : (idx (ix2 e (0 : Fin 1))).toInt = (v.val : ℤ)
  · simp only [h, true_and, if_true]
    rw [Finset.sum_ite_eq' Finset.univ c]
    simp
  · simp [h]

/-- A sum over `m * n` numbers as a double sum. -/
theorem sum_split {m n N : ℕ} (h : N = m * n) (g : Fin N → EReal) :
    ∑ e, g e = ∑ a : Fin m, ∑ b : Fin n, g ⟨a.val * n + b.val, by
      subst h
      calc a.val * n + b.val < a.val * n + n := by have := b.isLt; omega
        _ = (a.val + 1) * n := by ring
        _ ≤ m * n := Nat.mul_le_mul_right _ a.isLt⟩ := by
  subst h
  rw [← Fintype.sum_prod_type', ← Equiv.sum_comp finProdFinEquiv]
  refine Finset.sum_congr rfl fun p _ => congrArg g (Fin.ext ?_)
  show p.2.val + n * p.1.val = p.1.val * n + p.2.val
  ring

/-- A sum over the corners of the triangles, by face, triangle, cell and corner. -/
theorem sum_corners (g : Fin 580644 → EReal) :
    ∑ e, g e = ∑ f : Fin 6, ∑ t : Fin 2, ∑ r : Fin 127, ∑ q : Fin 127, ∑ k : Fin 3, g ⟨(tix f t r q).val * 3 + k.val, by have := (tix f t r q).isLt; omega⟩ := by
  rw [sum_split (m := 193548) (n := 3) rfl, sum_split (m := 1524) (n := 127) rfl, sum_split (m := 12) (n := 127) rfl, sum_split (m := 6) (n := 2) rfl]
  rfl

end Cert.ReferenceIdeal.RVal

end
-- ==== Proof.RefVertex.lean ====
/-
  THE REFERENCE'S VERTEX NORMALS: the sum over the triangles is the sum of the at most six unit normals that meet at a vertex.
-/
module

public import proofs.«01_k».proof.Proof.RefScatter

@[expose] public section

set_option maxRecDepth 16384

noncomputable section

namespace Cert.ReferenceIdeal.RVal

open Cert.ReferenceIdeal Cert.ReferenceIdeal.Gen Cert.ReferenceIdeal.Value Idealize.ShloMosaic Idealize.ShloMosaic.TcCoe
open Cert.Mesh

/-- A sum over faces and cells of the values at the one cell whose vertex is the given one. -/
theorem sum_cell (g : Fin 6 → ℕ → ℕ → EReal) (di dj : ℕ) (f : Fin 6) (i j : ℕ) :
    (∑ f' : Fin 6, ∑ r : Fin 127, ∑ q : Fin 127, if f' = f ∧ r.val + di = i ∧ q.val + dj = j then g f' r.val q.val else 0) = cell (g f) di dj i j := by
  rw [Finset.sum_eq_single f (fun f' _ h => by simp [h]) (fun h => absurd (Finset.mem_univ _) h)]
  unfold cell
  by_cases h : (di ≤ i ∧ i - di < 127) ∧ (dj ≤ j ∧ j - dj < 127)
  · obtain ⟨⟨h1, h2⟩, h3, h4⟩ := h
    rw [if_pos ⟨⟨h1, h2⟩, h3, h4⟩]
    rw [Finset.sum_eq_single (⟨i - di, h2⟩ : Fin 127), Finset.sum_eq_single (⟨j - dj, h4⟩ : Fin 127)]
    · rw [if_pos ⟨rfl, by show i - di + di = i; omega, by show j - dj + dj = j; omega⟩]
    · intro q _ hq
      refine if_neg fun hh => hq (Fin.ext ?_)
      show q.val = j - dj
      omega
    · exact fun h => absurd (Finset.mem_univ _) h
    · intro r _ hr
      refine Finset.sum_eq_zero fun q _ => if_neg fun hh => hr (Fin.ext ?_)
      show r.val = i - di
      omega
    · exact fun h => absurd (Finset.mem_univ _) h
  · rw [if_neg h]
    refine Finset.sum_eq_zero fun r _ => Finset.sum_eq_zero fun q _ => if_neg fun hh => h ?_
    have := r.isLt
    have := q.isLt
    omega

/-- Vertex numbers of different vertices are different. -/
theorem vix_eq (f' f : Fin 6) (a b i j : Fin 128) : vix f' a b = vix f i j ↔ f' = f ∧ a.val = i.val ∧ b.val = j.val := by
  constructor
  · intro h
    have h' : f'.val * 16384 + a.val * 128 + b.val = f.val * 16384 + i.val * 128 + j.val := congrArg Fin.val h
    have := a.isLt; have := b.isLt; have := i.isLt; have := j.isLt
    exact ⟨Fin.ext (by omega), by omega, by omega⟩
  · rintro ⟨rfl, h1, h2⟩
    refine Fin.ext ?_
    show f'.val * 16384 + a.val * 128 + b.val = f'.val * 16384 + i.val * 128 + j.val
    omega

/-- A word that holds a vertex number holds another's exactly when they are one. -/
theorem toInt_vertex (u v : Fin 98304) : (BitVec.ofNat 32 u.val).toInt = (v.val : ℤ) ↔ u = v := by
  have hu := u.isLt
  rw [StableHlo.Predicate.toInt_ofNat_small _ (by omega)]
  constructor
  · intro h; exact Fin.ext (by omega)
  · rintro rfl; rfl

variable (V0 : Valuation τ sig (Elt Ideal))

/-- The faces array's word at row-major position `3 n + k` is corner `k` of triangle `n`; the reference's wrap leaves a vertex number as it is. -/
theorem idx_at (n : Fin 193548) (k : Fin 3) (z : Fin 1) (b : Fin 98304) (hb : V0 (Proc.devRef .tc main_arg2) (ix2 n k) = BitVec.ofNat 32 b.val) :
    broadcastInDim S580644x1 ![0] bcast_S580644_S580644x1_0 (select (cmpi .slt (res_main_v171 V0) (broadcastInDim S580644 ![] bcast_S_S580644 (constantI S_ 32 0#32))) (addi (res_main_v171 V0) (broadcastInDim S580644 ![] bcast_S_S580644 (constantI S_ 32 98304#32))) (res_main_v171 V0))
      (ix2 (⟨n.val * 3 + k.val, by omega⟩ : Fin 580644) z) = BitVec.ofNat 32 b.val := by
  have hv : res_main_v171 V0 (ix1 (⟨n.val * 3 + k.val, by omega⟩ : Fin 580644)) = BitVec.ofNat 32 b.val := by
    rw [← hb]
    pointwise [res_main_v171]
  generalize (⟨n.val * 3 + k.val, by omega⟩ : Fin 580644) = e at hv ⊢
  pointwise []
  rw [Routing.wrap_of_lt _ _ (by rw [hv, BitVec.toNat_ofNat]; have := b.isLt; omega), hv]

/-- The update at row-major position `3 n + k` is triangle `n`'s unit normal. -/
theorem upd_at (x : S193548x3.Idx → EReal) (n : Fin 193548) (k c : Fin 3) :
    shapeCast S580644x3 (broadcastInDim S193548x3x3 ![0, 2] bcast_S193548x3_S193548x3x3_0_2 x) shapeCasts_S193548x3x3_S580644x3
      (ix2 (⟨n.val * 3 + k.val, by omega⟩ : Fin 580644) c) = x (ix2 n c) := by
  pointwise []

/-- The sum at a vertex, over the corners of all triangles. -/
theorem v180_sum (hF : ∀ f t r q k, V0 (Proc.devRef .tc main_arg2) (ix2 (tix f t r q) k) = BitVec.ofNat 32 (corner f t r q k).val) (v : Fin 98304) (c : Fin 3) :
    res_main_v180 V0 (ix2 v c) = ∑ f : Fin 6, ∑ t : Fin 2, ∑ r : Fin 127, ∑ q : Fin 127, ∑ k : Fin 3,
      if corner f t r q k = v then normals V0 (ix2 (tix f t r q) c) else 0 := by
  unfold res_main_v180
  refine (scatter_at_row _ _ _ v c).trans ?_
  rw [sum_corners]
  have hz : (broadcastInDim S98304x3 ![] bcast_S_S98304x3 (constant (F := Ideal) S_ .f32 0x00000000#32) (ix2 v c) : EReal) = 0 := by
    pointwise []
  rw [hz, zero_add]
  refine Finset.sum_congr rfl fun f _ => Finset.sum_congr rfl fun t _ => Finset.sum_congr rfl fun r _ => Finset.sum_congr rfl fun q _ => Finset.sum_congr rfl fun k _ => ?_
  rw [idx_at V0 (tix f t r q) k 0 _ (hF f t r q k)]
  simp only [toInt_vertex]
  exact congrArg (fun z : EReal => if corner f t r q k = v then z else 0) (upd_at (normals V0) (tix f t r q) k c)

/-- The first triangle's unit normal. -/
theorem normal_A (hF : ∀ f t r q k, V0 (Proc.devRef .tc main_arg2) (ix2 (tix f t r q) k) = BitVec.ofNat 32 (corner f t r q k).val)
    (f : Fin 6) (r q : Fin 127) (c : Fin 3) : normals V0 (ix2 (tix f 0 r q) c) = triA (mverts (imgs V0) f) r.val q.val c := by
  rw [normal_of V0 _ _ (hF f 0 r q)]
  show unit (cross (fun c => vtab V0 (vix f (dn r) (up q)) c - vtab V0 (vix f (up r) (up q)) c) (fun c => vtab V0 (vix f (up r) (dn q)) c - vtab V0 (vix f (up r) (up q)) c)) c = _
  simp only [vtab_vix]
  rfl

/-- The second triangle's unit normal. -/
theorem normal_B (hF : ∀ f t r q k, V0 (Proc.devRef .tc main_arg2) (ix2 (tix f t r q) k) = BitVec.ofNat 32 (corner f t r q k).val)
    (f : Fin 6) (r q : Fin 127) (c : Fin 3) : normals V0 (ix2 (tix f 1 r q) c) = triB (mverts (imgs V0) f) r.val q.val c := by
  rw [normal_of V0 _ _ (hF f 1 r q)]
  show unit (cross (fun c => vtab V0 (vix f (dn r) (up q)) c - vtab V0 (vix f (up r) (dn q)) c) (fun c => vtab V0 (vix f (dn r) (dn q)) c - vtab V0 (vix f (up r) (dn q)) c)) c = _
  simp only [vtab_vix]
  rfl

/-- The reference's vertex normals. -/
theorem v180_apply (hF : ∀ f t r q k, V0 (Proc.devRef .tc main_arg2) (ix2 (tix f t r q) k) = BitVec.ofNat 32 (corner f t r q k).val)
    (f : Fin 6) (i j : Fin 128) (c : Fin 3) : res_main_v180 V0 (ix2 (vix f i j) c) = vnorm (mverts (imgs V0) f) i.val j.val c := by
  rw [v180_sum V0 hF]
  have hA : ∀ (f' : Fin 6) (r q : Fin 127), (∑ k : Fin 3, if corner f' 0 r q k = vix f i j then normals V0 (ix2 (tix f' 0 r q) c) else 0)
      = (if f' = f ∧ r.val + 0 = i.val ∧ q.val + 0 = j.val then triA (mverts (imgs V0) f') r.val q.val c else 0)
        + (if f' = f ∧ r.val + 1 = i.val ∧ q.val + 0 = j.val then triA (mverts (imgs V0) f') r.val q.val c else 0)
        + (if f' = f ∧ r.val + 0 = i.val ∧ q.val + 1 = j.val then triA (mverts (imgs V0) f') r.val q.val c else 0) := by
    intro f' r q
    rw [normal_A V0 hF, Fin.sum_univ_three]
    have e0 : corner f' 0 r q 0 = vix f' (up r) (up q) := rfl
    have e1 : corner f' 0 r q 1 = vix f' (dn r) (up q) := rfl
    have e2 : corner f' 0 r q 2 = vix f' (up r) (dn q) := rfl
    rw [e0, e1, e2]
    simp only [vix_eq, up, dn, Nat.add_zero]
  have hB : ∀ (f' : Fin 6) (r q : Fin 127), (∑ k : Fin 3, if corner f' 1 r q k = vix f i j then normals V0 (ix2 (tix f' 1 r q) c) else 0)
      = (if f' = f ∧ r.val + 0 = i.val ∧ q.val + 1 = j.val then triB (mverts (imgs V0) f') r.val q.val c else 0)
        + (if f' = f ∧ r.val + 1 = i.val ∧ q.val + 0 = j.val then triB (mverts (imgs V0) f') r.val q.val c else 0)
        + (if f' = f ∧ r.val + 1 = i.val ∧ q.val + 1 = j.val then triB (mverts (imgs V0) f') r.val q.val c else 0) := by
    intro f' r q
    rw [normal_B V0 hF, Fin.sum_univ_three]
    have e0 : corner f' 1 r q 0 = vix f' (up r) (dn q) := rfl
    have e1 : corner f' 1 r q 1 = vix f' (dn r) (up q) := rfl
    have e2 : corner f' 1 r q 2 = vix f' (dn r) (dn q) := rfl
    rw [e0, e1, e2]
    simp only [vix_eq, up, dn, Nat.add_zero]
  simp only [Fin.sum_univ_two (f := fun t : Fin 2 => _), hA, hB, Finset.sum_add_distrib]
  rw [sum_cell (fun f' r q => triA (mverts (imgs V0) f') r q c), sum_cell (fun f' r q => triA (mverts (imgs V0) f') r q c),
    sum_cell (fun f' r q => triA (mverts (imgs V0) f') r q c), sum_cell (fun f' r q => triB (mverts (imgs V0) f') r q c),
    sum_cell (fun f' r q => triB (mverts (imgs V0) f') r q c), sum_cell (fun f' r q => triB (mverts (imgs V0) f') r q c)]
  unfold vnorm
  simp only [add_assoc]

end Cert.ReferenceIdeal.RVal

end
-- ==== Proof.RefResult.lean ====
/-
  THE REFERENCE'S RESULT: the displaced vertices of all six faces.
-/
module

public import proofs.«01_k».proof.Proof.RefVertex

@[expose] public section

set_option maxRecDepth 16384

noncomputable section

namespace Cert.ReferenceIdeal.RVal

open Cert.ReferenceIdeal Cert.ReferenceIdeal.Gen Cert.ReferenceIdeal.Value Idealize.ShloMosaic Idealize.ShloMosaic.TcCoe
open Cert.Mesh

variable (V0 : Valuation τ sig (Elt Ideal))

/-- The reference's result, as its run leaves it. -/
def rout : FVec Ideal S6x3x128x128 .f32 :=
  addf (transpose S6x3x128x128 [0, 3, 1, 2] (shapeCast _ (res_main_v104 V0) shapeCasts_S98304x3_S6x128x128x3) transposes_S6x128x128x3_S6x3x128x128_0_3_1_2) (mulf (mulf (transpose S6x3x128x128 [0, 3, 1, 2] (shapeCast _ (Host.divf (res_main_v180 V0) (broadcastInDim S98304x3 ![0, 1] bcast_S98304x1_S98304x3_0_1 (addf (Host.sqrt (broadcastInDim S98304x1 ![0] bcast_S98304_S98304x1_0 (Host.reduceAdd (mulf (res_main_v180 V0) (res_main_v180 V0)) (constant S_ .f32 0x00000000#32) reducesTo_S98304x3_S98304_d1 h_S_))) (broadcastInDim S98304x1 ![] bcast_S_S98304x1 (constant S_ .f32 0x2B8CBCCC#32))))) shapeCasts_S98304x3_S6x128x128x3) transposes_S6x128x128x3_S6x3x128x128_0_3_1_2) (broadcastInDim S6x3x128x128 ![0, 1, 2, 3] bcast_S6x1x128x128_S6x3x128x128_0_1_2_3 (Host.divf (broadcastInDim S6x1x128x128 ![] bcast_S_S6x1x128x128 (constant S_ .f32 0x3F800000#32)) (addf (broadcastInDim S6x1x128x128 ![] bcast_S_S6x1x128x128 (constant S_ .f32 0x3F800000#32)) (Host.exp (Host.negf (V0 (Proc.devRef .tc main_arg1)))))))) (broadcastInDim S6x3x128x128 ![] bcast_S_S6x3x128x128 (constant S_ .f32 0x3C4CCCCD#32)))

/-- The displacement parameters the reference reads. -/
def prms : (⟨4, ![6, 1, 128, 128]⟩ : Shape).Idx → EReal := V0 (Proc.devRef .tc main_arg1)

/-- The table of vertex normals, as a function. -/
def ntab (b : Fin 98304) (c : Fin 3) : EReal := res_main_v180 V0 (ix2 b c)

/-- The reference's result at an index, from its tables of vertices and of normals. -/
theorem rout_at (f : Fin 6) (c : Fin 3) (i j : Fin 128) : rout V0 (ix4 f c i j)
    = vtab V0 (vix f i j) c + Ideal.div (ntab V0 (vix f i j) c)
        (Ideal.sqrt (∑ x : Fin 3, ntab V0 (vix f i j) x * ntab V0 (vix f i j) x) + eps)
      * Ideal.div 1 (1 + Ideal.exp (-prms V0 (ix4 f 0 i j))) * ratio := by
  unfold vix prms eps ratio vtab ntab
  pointwise [rout]

/-- Under the precondition the reference's result is the displaced vertices. -/
theorem rout_apply (hF : ∀ f t r q k, V0 (Proc.devRef .tc main_arg2) (ix2 (tix f t r q) k) = BitVec.ofNat 32 (corner f t r q k).val)
    (f : Fin 6) (c : Fin 3) (i j : Fin 128) : rout V0 (ix4 f c i j) = mesh (imgs V0) (prms V0) f c i j := by
  have hv := vtab_vix V0 f i j
  have hn : ∀ c, ntab V0 (vix f i j) c = vnorm (mverts (imgs V0) f) i.val j.val c := v180_apply V0 hF f i j
  rw [rout_at]
  simp only [hv, hn]
  rw [mul_assoc, Fin.sum_univ_three]
  rfl

end Cert.ReferenceIdeal.RVal

end
-- ==== Proof.lean ====
/-
  THE PROOF OF ALL CLAIMS: the frames are the generated runs'; the idealisation rewrites nothing; and under the precondition on the
  faces the kernel and the reference both end with the displaced vertices of the mesh.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Kernel
public import proofs.«01_k».proof.Proof.RefResult
public import Idealize.ShloMosaic.Adequacy
public import Idealize.ShloMosaic.Init

@[expose] public section

noncomputable section

namespace Cert.Proof

open Idealize.ShloMosaic Idealize.SL.Sem Idealize.ShloMosaic.TcCoe

/-- The kernel runs, leaves its arguments as they were and every counter at zero. -/
theorem frame_kernel : Cert.quiescent_Kernel := fun m ρ _ => Cert.Kernel.Gen.frame m ρ

/-- The same over the extended reals. -/
theorem frame_ideal : Cert.quiescent_KernelIdeal := fun m ρ _ => Cert.KernelIdeal.Gen.frame m ρ

/-- The reference runs, leaves its arguments as they were and every counter at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference's result, where its arguments are the kernel's and the precondition holds, is what the kernel's array holds. -/
theorem results_agree [Cert.Pre_cube_faces.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_cube_faces m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.RVal.rout (StableHlo.launchContents m' c) = Cert.KernelIdeal.KVal.kout m c := by
  have hF : ∀ f t r q k, StableHlo.launchContents m' c (Proc.devRef .tc Cert.ReferenceIdeal.main_arg2) (ix2 (Cert.ReferenceIdeal.RVal.tix f t r q) k)
      = BitVec.ofNat 32 (Cert.ReferenceIdeal.RVal.corner f t r q k).val := by
    intro f t r q k
    exact (congrFun h2 (ix2 (Cert.ReferenceIdeal.RVal.tix f t r q) k)).trans (Cert.ReferenceIdeal.RVal.faces_word _ _ _ (hpre c) f t r q k)
  funext y
  have hy := eq_ix4 y
  refine (congrArg (Cert.ReferenceIdeal.RVal.rout _) hy).trans ((Cert.ReferenceIdeal.RVal.rout_apply _ hF (y 0) (y 1) (y 2) (y 3)).trans ?_)
  exact congrArg₂ (fun a p => Cert.Mesh.mesh a p (y 0) (y 1) (y 2) (y 3)) h0 h1

/-- Under the precondition the kernel and the reference end with equal results. -/
theorem algebraic [Cert.Pre_cube_faces.Facts] : Cert.algebraic_KernelIdeal_ReferenceIdeal_pre_cube_faces := by
  intro m ρ m' ρ' hpre hagree
  refine ⟨fun c => Cert.KernelIdeal.KVal.kout m c, fun c => m ((c.tc : Thread Cert.KernelIdeal.nD Cert.KernelIdeal.τ).loc Cert.KernelIdeal.main_arg2), ?_, ?_⟩
  · exact (θ_run Cert.KernelIdeal.defs _ _).mono
      (fun _ h c => ⟨(h c).1.trans (Cert.KernelIdeal.KVal.final m c), (h c).2.2.2, (h c).2⟩)
      (Cert.KernelIdeal.Value.run_blocks (F := Ideal) m ρ)
  · exact (θ_run Cert.ReferenceIdeal.defs _ _).mono
      (fun _ h c => ⟨(h c).1.trans (results_agree m m' hpre c (hagree c).1 (hagree c).2.1 (hagree c).2.2),
        (h c).2.1.trans (hagree c).2.2, (h c).2.2⟩)
      (Cert.ReferenceIdeal.Value.run (F := Ideal) m' ρ')

/-- All claims. -/
theorem claim : Cert.Claim := ⟨Cert.Kernel.Gen.facts, Cert.KernelIdeal.Gen.facts, Cert.ReferenceIdeal.Gen.facts, Cert.ReferenceIdeal.RVal.preFacts,
  frame_kernel, frame_ideal, fun m ρ _ => Cert.KernelIdeal.Gen.frame m ρ, frame_reference,
  fun m ρ _ => frame_reference m ρ trivial, trivial, @algebraic Cert.ReferenceIdeal.RVal.preFacts⟩

end Cert.Proof

end
